-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_finite_and_served [hPre_finite_and_served : Cert.Pre_finite_and_served.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_served [hPre_finite_and_served : Cert.Pre_finite_and_served.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_served [hKernelIdeal : Cert.KernelIdeal.Facts] [hPre_finite_and_served : Cert.Pre_finite_and_served.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_served m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_served [hReferenceIdeal : Cert.ReferenceIdeal.Facts] [hPre_finite_and_served : Cert.Pre_finite_and_served.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_served m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_served [hKernelIdeal : Cert.KernelIdeal.Facts] [hReferenceIdeal : Cert.ReferenceIdeal.Facts] [hPre_finite_and_served : Cert.Pre_finite_and_served.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_served m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_finite_and_served : Cert.Pre_finite_and_served.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_finite_and_served (hKernelIdeal := hKernelIdeal) (hPre_finite_and_served := hPre_finite_and_served)
    ∧ quiescent_ReferenceIdeal (hReferenceIdeal := hReferenceIdeal)
    ∧ quiescent_ReferenceIdeal_pre_finite_and_served (hReferenceIdeal := hReferenceIdeal) (hPre_finite_and_served := hPre_finite_and_served)
    ∧ preserves_Kernel_KernelIdeal
    ∧ algebraic_KernelIdeal_ReferenceIdeal_pre_finite_and_served (hKernelIdeal := hKernelIdeal) (hReferenceIdeal := hReferenceIdeal) (hPre_finite_and_served := hPre_finite_and_served)
-- ==== Pre_batch_in_range.lean ====
abbrev S100000x128 : Shape := ⟨2, ![100000, 128]⟩
abbrev S100000x8 : Shape := ⟨2, ![100000, 8]⟩
abbrev S100000 : Shape := ⟨1, ![100000]⟩
abbrev S128x136 : Shape := ⟨2, ![128, 136]⟩
abbrev S128 : Shape := ⟨1, ![128]⟩
abbrev S128x128 : Shape := ⟨2, ![128, 128]⟩
abbrev S16x128 : Shape := ⟨2, ![16, 128]⟩
abbrev S16 : Shape := ⟨1, ![16]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128 .f32) (main_arg1 : FVec F S100000x8 .f32) (main_arg2 : IVec S100000 32) (main_arg3 : FVec F S128x136 .f32) (main_arg4 : FVec F S128 .f32) (main_arg5 : FVec F S128x128 .f32) (main_arg6 : FVec F S128 .f32) (main_arg7 : FVec F S16x128 .f32) (main_arg8 : FVec F S16 .f32) : IVec S100000 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  main_v4
-- ==== Pre_finite_and_served.lean ====
abbrev S100000x128 : Shape := ⟨2, ![100000, 128]⟩
abbrev S100000x8 : Shape := ⟨2, ![100000, 8]⟩
abbrev S100000 : Shape := ⟨1, ![100000]⟩
abbrev S128x136 : Shape := ⟨2, ![128, 136]⟩
abbrev S128 : Shape := ⟨1, ![128]⟩
abbrev S128x128 : Shape := ⟨2, ![128, 128]⟩
abbrev S16x128 : Shape := ⟨2, ![16, 128]⟩
abbrev S16 : Shape := ⟨1, ![16]⟩
abbrev S_ : Shape := ⟨0, ![]⟩
abbrev S512 : Shape := ⟨1, ![512]⟩
abbrev S1x100000 : Shape := ⟨2, ![1, 100000]⟩
abbrev S512x1 : Shape := ⟨2, ![512, 1]⟩
abbrev S512x100000 : Shape := ⟨2, ![512, 100000]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000x8 : S_.BroadcastsInDim S100000x8 (![] : Fin 0 → Fin S100000x8.rank)
  reducesTo_S100000x8_S_d0_1 : S100000x8.ReducesTo [0, 1] S_
  bcast_S_S128x136 : S_.BroadcastsInDim S128x136 (![] : Fin 0 → Fin S128x136.rank)
  reducesTo_S128x136_S_d0_1 : S128x136.ReducesTo [0, 1] S_
  bcast_S100000_S1x100000_1 : S100000.BroadcastsInDim S1x100000 (![1] : Fin 1 → Fin S1x100000.rank)
  bcast_S512_S512x1_0 : S512.BroadcastsInDim S512x1 (![0] : Fin 1 → Fin S512x1.rank)
  bcast_S1x100000_S512x100000_0_1 : S1x100000.BroadcastsInDim S512x100000 (![0, 1] : Fin 2 → Fin S512x100000.rank)
  bcast_S512x1_S512x100000_0_1 : S512x1.BroadcastsInDim S512x100000 (![0, 1] : Fin 2 → Fin S512x100000.rank)
  reducesTo_S512x100000_S512_d1 : S512x100000.ReducesTo [1] S512
  reducesTo_S512_S_d0 : S512.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S100000 32) (main_arg4 : FVec F S128 .f32) (main_v5 : IVec S_ 1) (main_v14 : IVec S_ 1) (main_v15 : FVec F S128x136 .f32) (main_cst_5 : FVec F S_ .f32) : IVec S_ 1 :=
  let main_v16 : FVec F S128x136 .f32 := broadcastInDim S128x136 ![] bcast_S_S128x136 main_cst_5
  let main_v17 : IVec S128x136 1 := cmpf .olt main_v15 main_v16
  let main_c_6 : IVec S_ 1 := constantI S_ 1 1#1
  let main_v18 : IVec S_ 1 := (fun x v => Host.reduce IntOp.andi x v reducesTo_S128x136_S_d0_1 h_S_) main_v17 main_c_6
  let main_v19 : IVec S_ 1 := andi main_v14 main_v18
  let main_v20 : IVec S512 32 := iotaInDim S512 32 0
  let main_v21 : IVec S1x100000 32 := broadcastInDim S1x100000 ![1] bcast_S100000_S1x100000_1 main_arg2
  let main_v22 : IVec S512x1 32 := broadcastInDim S512x1 ![0] bcast_S512_S512x1_0 main_v20
  let main_v23 : IVec S512x100000 32 := broadcastInDim S512x100000 ![0, 1] bcast_S1x100000_S512x100000_0_1 main_v21
  let main_v24 : IVec S512x100000 32 := broadcastInDim S512x100000 ![0, 1] bcast_S512x1_S512x100000_0_1 main_v22
  let main_v25 : IVec S512x100000 1 := cmpi .eq main_v23 main_v24
  let main_c_7 : IVec S_ 1 := constantI S_ 1 0#1
  let main_v26 : IVec S512 1 := (fun x v => Host.reduce IntOp.ori x v reducesTo_S512x100000_S512_d1 h_S_) main_v25 main_c_7
  let main_c_8 : IVec S_ 1 := constantI S_ 1 1#1
  let main_v27 : IVec S_ 1 := (fun x v => Host.reduce IntOp.andi x v reducesTo_S512_S_d0 h_S_) main_v26 main_c_8
  let main_v28 : IVec S_ 1 := andi main_v5 main_v19
  let main_cst_9 : FVec F S_ .f32 := constant S_ .f32 0x00000000#32
  let main_v29 : FVec F S128 .f32 := broadcastInDim S128 ![] bcast_S_S128 main_cst_9
  let main_v30 : IVec S128 1 := cmpf .oeq main_arg4 main_v29
  let main_c_10 : IVec S_ 1 := constantI S_ 1 1#1
  let main_v31 : IVec S_ 1 := (fun x v => Host.reduce IntOp.andi x v reducesTo_S128_S_d0 h_S_) main_v30 main_c_10
  let main_v32 : IVec S_ 1 := ori main_v27 main_v31
  let main_v33 : IVec S_ 1 := andi main_v28 main_v32
  main_v33

def fn {F : FTy → Type} [FloatOps F] (main_arg0 : FVec F S100000x128 .f32) (main_arg1 : FVec F S100000x8 .f32) (main_arg2 : IVec S100000 32) (main_arg3 : FVec F S128x136 .f32) (main_arg4 : FVec F S128 .f32) (main_arg5 : FVec F S128x128 .f32) (main_arg6 : FVec F S128 .f32) (main_arg7 : FVec F S16x128 .f32) (main_arg8 : FVec F S16 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 512#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : FVec F S100000x128 .f32 := Host.absf main_arg0
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : FVec F S100000x8 .f32 := Host.absf main_arg1
  let main_cst_3 : FVec F S_ .f32 := constant S_ .f32 0x7F800000#32
  let main_v11 : FVec F S100000x8 .f32 := broadcastInDim S100000x8 ![] bcast_S_S100000x8 main_cst_3
  let main_v12 : IVec S100000x8 1 := cmpf .olt main_v10 main_v11
  let main_c_4 : IVec S_ 1 := constantI S_ 1 1#1
  let main_v13 : IVec S_ 1 := (fun x v => Host.reduce IntOp.andi x v reducesTo_S100000x8_S_d0_1 h_S_) main_v12 main_c_4
  let main_v14 : IVec S_ 1 := andi main_v9 main_v13
  let main_v15 : FVec F S128x136 .f32 := Host.absf main_arg3
  let main_cst_5 : FVec F S_ .f32 := constant S_ .f32 0x7F800000#32
  fn_part1 (F := F) main_arg2 main_arg4 main_v5 main_v14 main_v15 main_cst_5
-- ==== Kernel.lean ====
abbrev S100000x128 : Shape := ⟨2, ![100000, 128]⟩
abbrev S100000x8 : Shape := ⟨2, ![100000, 8]⟩
abbrev S100000 : Shape := ⟨1, ![100000]⟩
abbrev S128x136 : Shape := ⟨2, ![128, 136]⟩
abbrev S128 : Shape := ⟨1, ![128]⟩
abbrev S128x128 : Shape := ⟨2, ![128, 128]⟩
abbrev S16x128 : Shape := ⟨2, ![16, 128]⟩
abbrev S16 : Shape := ⟨1, ![16]⟩
abbrev S32x512x128 : Shape := ⟨3, ![32, 512, 128]⟩
abbrev S144 : Shape := ⟨1, ![144]⟩
abbrev S512x128 : Shape := ⟨2, ![512, 128]⟩
abbrev S_ : Shape := ⟨0, ![]⟩
abbrev S1x16 : Shape := ⟨2, ![1, 16]⟩
abbrev S1 : Shape := ⟨1, ![1]⟩
abbrev S64x128 : Shape := ⟨2, ![64, 128]⟩
abbrev S64 : Shape := ⟨1, ![64]⟩
abbrev S72x128 : Shape := ⟨2, ![72, 128]⟩
abbrev S72 : Shape := ⟨1, ![72]⟩
abbrev S1x512x128 : Shape := ⟨3, ![1, 512, 128]⟩
abbrev S8x100000 : Shape := ⟨2, ![8, 100000]⟩
abbrev S1x100000 : Shape := ⟨2, ![1, 100000]⟩
abbrev S9x512 : Shape := ⟨2, ![9, 512]⟩
abbrev S1x512 : Shape := ⟨2, ![1, 512]⟩
abbrev S1x2000 : Shape := ⟨2, ![1, 2000]⟩
abbrev S2000 : Shape := ⟨1, ![2000]⟩
abbrev S2000x1 : Shape := ⟨2, ![2000, 1]⟩
abbrev S2000x512 : Shape := ⟨2, ![2000, 512]⟩
abbrev S8x2000 : Shape := ⟨2, ![8, 2000]⟩
abbrev S9x2000 : Shape := ⟨2, ![9, 2000]⟩
abbrev S50x1x2000 : Shape := ⟨3, ![50, 1, 2000]⟩
abbrev S2000x128 : Shape := ⟨2, ![2000, 128]⟩
abbrev S1x1x2000 : Shape := ⟨3, ![1, 1, 2000]⟩
abbrev S1x128 : Shape := ⟨2, ![1, 128]⟩
abbrev S512x16 : Shape := ⟨2, ![512, 16]⟩
abbrev S512x512 : Shape := ⟨2, ![512, 512]⟩
abbrev S512x1 : Shape := ⟨2, ![512, 1]⟩
abbrev S8x512 : Shape := ⟨2, ![8, 512]⟩
abbrev S128x8 : Shape := ⟨2, ![128, 8]⟩

abbrev nBuf : Table → Nat
  | .hbm => 19
  | .local .tc .vmem => 18
  | .local .scVector .vmem => 5
  | _ => 0

abbrev bufTy : (tb : Table) → Fin (nBuf tb) → BufTy
  | .hbm, ⟨0, _⟩ => ⟨S100000x128, .f32⟩
  | .hbm, ⟨1, _⟩ => ⟨S100000x8, .f32⟩
  | .hbm, ⟨2, _⟩ => ⟨S100000, .i32⟩
  | .hbm, ⟨3, _⟩ => ⟨S128x136, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S16, .f32⟩
  | .hbm, ⟨9, _⟩ => ⟨S32x512x128, .f32⟩
  | .hbm, ⟨10, _⟩ => ⟨S8x100000, .f32⟩
  | .hbm, ⟨11, _⟩ => ⟨S1x100000, .i32⟩
  | .hbm, ⟨12, _⟩ => ⟨S9x512, .f32⟩
  | .hbm, ⟨13, _⟩ => ⟨S50x1x2000, .i32⟩
  | .hbm, ⟨14, _⟩ => ⟨S512x128, .f32⟩
  | .hbm, ⟨15, _⟩ => ⟨S1x128, .f32⟩
  | .hbm, ⟨16, _⟩ => ⟨S1x128, .f32⟩
  | .hbm, ⟨17, _⟩ => ⟨S1x16, .f32⟩
  | .hbm, ⟨18, _⟩ => ⟨S512x16, .f32⟩
  | .local .tc .vmem, ⟨0, _⟩ => ⟨S8x100000, .f32⟩
  | .local .tc .vmem, ⟨1, _⟩ => ⟨S1x100000, .i32⟩
  | .local .tc .vmem, ⟨2, _⟩ => ⟨S9x512, .f32⟩
  | .local .tc .vmem, ⟨3, _⟩ => ⟨S2000x128, .f32⟩
  | .local .tc .vmem, ⟨4, _⟩ => ⟨S2000x128, .f32⟩
  | .local .tc .vmem, ⟨5, _⟩ => ⟨S1x1x2000, .i32⟩
  | .local .tc .vmem, ⟨6, _⟩ => ⟨S1x1x2000, .i32⟩
  | .local .tc .vmem, ⟨7, _⟩ => ⟨S512x128, .f32⟩
  | .local .tc .vmem, ⟨8, _⟩ => ⟨S32x512x128, .f32⟩
  | .local .tc .vmem, ⟨9, _⟩ => ⟨S512x128, .f32⟩
  | .local .tc .vmem, ⟨10, _⟩ => ⟨S9x512, .f32⟩
  | .local .tc .vmem, ⟨11, _⟩ => ⟨S128x136, .f32⟩
  | .local .tc .vmem, ⟨12, _⟩ => ⟨S1x128, .f32⟩
  | .local .tc .vmem, ⟨13, _⟩ => ⟨S128x128, .f32⟩
  | .local .tc .vmem, ⟨14, _⟩ => ⟨S1x128, .f32⟩
  | .local .tc .vmem, ⟨15, _⟩ => ⟨S16x128, .f32⟩
  | .local .tc .vmem, ⟨16, _⟩ => ⟨S1x16, .f32⟩
  | .local .tc .vmem, ⟨17, _⟩ => ⟨S512x16, .f32⟩
  | .local .scVector .vmem, ⟨0, _⟩ => ⟨S128x128, .f32⟩
  | .local .scVector .vmem, ⟨1, _⟩ => ⟨S128x128, .f32⟩
  | .local .scVector .vmem, ⟨2, _⟩ => ⟨S144, .i32⟩
  | .local .scVector .vmem, ⟨3, _⟩ => ⟨S144, .i32⟩
  | .local .scVector .vmem, ⟨4, _⟩ => ⟨S512x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_arg0_scv : Ref sig .scVector := ⟨.hbm, 0, rfl⟩
abbrev main_arg2_scv : Ref sig .scVector := ⟨.hbm, 2, rfl⟩
abbrev main_v0_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc3_stg6_0 : Ref sig .tc := ⟨.vmem, 14, rfl⟩
abbrev cc3_stg7_0 : Ref sig .tc := ⟨.vmem, 15, rfl⟩
abbrev cc3_stg8_0 : Ref sig .tc := ⟨.vmem, 16, rfl⟩
abbrev cc3_stg9_0 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem1_0 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24
abbrev cc3_sem8_0 : DmaSem sig := 25
abbrev cc3_sem9_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  v8
@[reducible] def k0_t1_loop : Scf.Loop 32 :=
  let c0_i32 : BitVec 32 := 0#32
  let c512_i32 : BitVec 32 := 512#32
  let v11 : BitVec 32 := Scalar.addi c0_i32 c512_i32
  let c1_i32 : BitVec 32 := 1#32
  ⟨c0_i32, v11, c1_i32⟩
def k0_off1 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v42 : Index := Scalar.indexCast v40
  let c0 : Index := 0#32
  ![v42.toNat, 0]
def k0_off2 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v47 : Index := Scalar.indexCast v40
  let c16 : Index := 16#32
  ![v47.toNat, 16]
def k0_off3 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v52 : Index := Scalar.indexCast v40
  let c32 : Index := 32#32
  ![v52.toNat, 32]
def k0_off4 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v57 : Index := Scalar.indexCast v40
  let c48 : Index := 48#32
  ![v57.toNat, 48]
def k0_off5 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v62 : Index := Scalar.indexCast v40
  let c64 : Index := 64#32
  ![v62.toNat, 64]
def k0_off6 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v67 : Index := Scalar.indexCast v40
  let c80 : Index := 80#32
  ![v67.toNat, 80]
def k0_off7 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v72 : Index := Scalar.indexCast v40
  let c96 : Index := 96#32
  ![v72.toNat, 96]
def k0_off8 (k0_t1 : Fin k0_t1_loop.trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c1_i32_26 : BitVec 32 := 1#32
  let v39 : BitVec 32 := Scalar.muli arg14 c1_i32_26
  let v40 : BitVec 32 := Scalar.addi c0_i32_27 v39
  let v77 : Index := Scalar.indexCast v40
  let c112 : Index := 112#32
  ![v77.toNat, 112]
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_3 : BitVec 32 := 0#32
  let v12 : BitVec 32 := Scalar.addi v9 c0_i32_3
  v12
def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_3 : BitVec 32 := 0#32
  let v12 : BitVec 32 := Scalar.addi v9 c0_i32_3
  let v13 : BitVec 32 := v12
  let c0_i32_4 : BitVec 32 := 0#32
  ![v13.toNat, 0]
def k0_off10 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_3 : BitVec 32 := 0#32
  let v12 : BitVec 32 := Scalar.addi v9 c0_i32_3
  let v13 : BitVec 32 := v12
  ![v13.toNat]
@[reducible] def k0_t2_loop : Scf.Loop 32 :=
  let c0_i32_8 : BitVec 32 := 0#32
  let c9_i32 : BitVec 32 := 9#32
  let v20 : BitVec 32 := Scalar.addi c0_i32_8 c9_i32
  let c1_i32_9 : BitVec 32 := 1#32
  ⟨c0_i32_8, v20, c1_i32_9⟩
def k0_mult3 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c1_i32_27 : BitVec 32 := 1#32
  let v41 : BitVec 32 := Scalar.addi v40 c1_i32_27
  let c128_i32 : BitVec 32 := 128#32
  let v42 : BitVec 32 := Scalar.muli v41 c128_i32
  let v43 : BitVec 32 := Scalar.addi v9 v42
  v43
def k0_off11 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c1_i32_27 : BitVec 32 := 1#32
  let v41 : BitVec 32 := Scalar.addi v40 c1_i32_27
  let c128_i32 : BitVec 32 := 128#32
  let v42 : BitVec 32 := Scalar.muli v41 c128_i32
  let v43 : BitVec 32 := Scalar.addi v9 v42
  let v44 : BitVec 32 := v43
  let c0_i32_28 : BitVec 32 := 0#32
  ![v44.toNat, 0]
def k0_off12 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c1_i32_27 : BitVec 32 := 1#32
  let v41 : BitVec 32 := Scalar.addi v40 c1_i32_27
  let c128_i32 : BitVec 32 := 128#32
  let v42 : BitVec 32 := Scalar.muli v41 c128_i32
  let v43 : BitVec 32 := Scalar.addi v9 v42
  let v44 : BitVec 32 := v43
  ![v44.toNat]
def k0_mult4 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c128_i32_32 : BitVec 32 := 128#32
  let v51 : BitVec 32 := Scalar.muli v40 c128_i32_32
  let v52 : BitVec 32 := Scalar.addi v9 v51
  v52
def k0_off13 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c128_i32_32 : BitVec 32 := 128#32
  let v51 : BitVec 32 := Scalar.muli v40 c128_i32_32
  let v52 : BitVec 32 := Scalar.addi v9 v51
  let v53 : BitVec 32 := v52
  let c0_i32_33 : BitVec 32 := 0#32
  ![v53.toNat, 0]
def k0_off14 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c128_i32_32 : BitVec 32 := 128#32
  let v51 : BitVec 32 := Scalar.muli v40 c128_i32_32
  let v52 : BitVec 32 := Scalar.addi v9 v51
  let v53 : BitVec 32 := v52
  ![v53.toNat]
@[reducible] def k0_t3_loop : Scf.Loop 32 :=
  let c0_i32_37 : BitVec 32 := 0#32
  let c128_i32_38 : BitVec 32 := 128#32
  let v60 : BitVec 32 := Scalar.addi c0_i32_37 c128_i32_38
  let c1_i32_39 : BitVec 32 := 1#32
  ⟨c0_i32_37, v60, c1_i32_39⟩
def k0_off15 (k0_t3 : Fin k0_t3_loop.trips) : Fin 1 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v78 : Index := Scalar.indexCast v77
  ![v78.toNat]
def k0_off16 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v83 : Index := Scalar.indexCast v77
  let c0 : Index := 0#32
  ![v83.toNat, 0]
def k0_off17 (v82 : BitVec 32) : Fin 2 → Nat :=
  let v86 : Index := Scalar.indexCast v82
  let c0_55 : Index := 0#32
  ![v86.toNat, 0]

def k0_off18 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v94 : Index := Scalar.indexCast v77
  let c16 : Index := 16#32
  ![v94.toNat, 16]
def k0_off19 (v82 : BitVec 32) : Fin 2 → Nat :=
  let v97 : Index := Scalar.indexCast v82
  let c16_57 : Index := 16#32
  ![v97.toNat, 16]
def k0_off20 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v105 : Index := Scalar.indexCast v77
  let c32 : Index := 32#32
  ![v105.toNat, 32]
def k0_off21 (v82 : BitVec 32) : Fin 2 → Nat :=
  let v108 : Index := Scalar.indexCast v82
  let c32_59 : Index := 32#32
  ![v108.toNat, 32]
def k0_off22 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v116 : Index := Scalar.indexCast v77
  let c48 : Index := 48#32
  ![v116.toNat, 48]
def k0_off23 (v82 : BitVec 32) : Fin 2 → Nat :=
  let v119 : Index := Scalar.indexCast v82
  let c48_61 : Index := 48#32
  ![v119.toNat, 48]
def k0_off24 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v127 : Index := Scalar.indexCast v77
  let c64 : Index := 64#32
  ![v127.toNat, 64]
def k0_off25 (v82 : BitVec 32) : Fin 2 → Nat :=
  let v130 : Index := Scalar.indexCast v82
  let c64_63 : Index := 64#32
  ![v130.toNat, 64]
def k0_off26 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v138 : Index := Scalar.indexCast v77
  let c80 : Index := 80#32
  ![v138.toNat, 80]
def k0_off27 (v82 : BitVec 32) : Fin 2 → Nat :=
  let v141 : Index := Scalar.indexCast v82
  let c80_65 : Index := 80#32
  ![v141.toNat, 80]
def k0_off28 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v149 : Index := Scalar.indexCast v77
  let c96 : Index := 96#32
  ![v149.toNat, 96]
def k0_off29 (v82 : BitVec 32) : Fin 2 → Nat :=
  let v152 : Index := Scalar.indexCast v82
  let c96_67 : Index := 96#32
  ![v152.toNat, 96]
def k0_off30 (k0_t3 : Fin k0_t3_loop.trips) : Fin 2 → Nat :=
  let c0_i32_54 : BitVec 32 := 0#32
  let c0_i32_37 : BitVec 32 := 0#32
  let c1_i32_39 : BitVec 32 := 1#32
  let arg15 : BitVec 32 := Scf.iv c0_i32_37 c1_i32_39 k0_t3
  let c1_i32_53 : BitVec 32 := 1#32
  let v76 : BitVec 32 := Scalar.muli arg15 c1_i32_53
  let v77 : BitVec 32 := Scalar.addi c0_i32_54 v76
  let v160 : Index := Scalar.indexCast v77
  let c112 : Index := 112#32
  ![v160.toNat, 112]
def k0_off31 (v82 : BitVec 32) : Fin 2 → Nat :=
  let v163 : Index := Scalar.indexCast v82
  let c112_69 : Index := 112#32
  ![v163.toNat, 112]

def k0_chk1 (v82 : BitVec 32) : Prop :=
  (∀ a, (k0_off17 v82) a + S1x16.size a ≤ S512x128.size a) ∧
  (∀ a, (k0_off19 v82) a + S1x16.size a ≤ S512x128.size a) ∧
  (∀ a, (k0_off21 v82) a + S1x16.size a ≤ S512x128.size a) ∧
  (∀ a, (k0_off23 v82) a + S1x16.size a ≤ S512x128.size a) ∧
  (∀ a, (k0_off25 v82) a + S1x16.size a ≤ S512x128.size a) ∧
  (∀ a, (k0_off27 v82) a + S1x16.size a ≤ S512x128.size a) ∧
  (∀ a, (k0_off29 v82) a + S1x16.size a ≤ S512x128.size a) ∧
  (∀ a, (k0_off31 v82) a + S1x16.size a ≤ S512x128.size a)
theorem k0_off17_inb : ∀ (v82 : BitVec 32) (k0_hw1 : k0_chk1 v82), ∀ a, (k0_off17 v82) a + S1x16.size a ≤ S512x128.size a := fun v82 k0_hw1 => k0_hw1.1
theorem k0_off19_inb : ∀ (v82 : BitVec 32) (k0_hw1 : k0_chk1 v82), ∀ a, (k0_off19 v82) a + S1x16.size a ≤ S512x128.size a := fun v82 k0_hw1 => k0_hw1.2.1
theorem k0_off21_inb : ∀ (v82 : BitVec 32) (k0_hw1 : k0_chk1 v82), ∀ a, (k0_off21 v82) a + S1x16.size a ≤ S512x128.size a := fun v82 k0_hw1 => k0_hw1.2.2.1
theorem k0_off23_inb : ∀ (v82 : BitVec 32) (k0_hw1 : k0_chk1 v82), ∀ a, (k0_off23 v82) a + S1x16.size a ≤ S512x128.size a := fun v82 k0_hw1 => k0_hw1.2.2.2.1
theorem k0_off25_inb : ∀ (v82 : BitVec 32) (k0_hw1 : k0_chk1 v82), ∀ a, (k0_off25 v82) a + S1x16.size a ≤ S512x128.size a := fun v82 k0_hw1 => k0_hw1.2.2.2.2.1
theorem k0_off27_inb : ∀ (v82 : BitVec 32) (k0_hw1 : k0_chk1 v82), ∀ a, (k0_off27 v82) a + S1x16.size a ≤ S512x128.size a := fun v82 k0_hw1 => k0_hw1.2.2.2.2.2.1
theorem k0_off29_inb : ∀ (v82 : BitVec 32) (k0_hw1 : k0_chk1 v82), ∀ a, (k0_off29 v82) a + S1x16.size a ≤ S512x128.size a := fun v82 k0_hw1 => k0_hw1.2.2.2.2.2.2.1
theorem k0_off31_inb : ∀ (v82 : BitVec 32) (k0_hw1 : k0_chk1 v82), ∀ a, (k0_off31 v82) a + S1x16.size a ≤ S512x128.size a := fun v82 k0_hw1 => k0_hw1.2.2.2.2.2.2.2

def k0_cond1 (k0_t2 : Fin k0_t2_loop.trips) : BitVec 1 :=
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c2_i32_41 : BitVec 32 := 2#32
  let v61 : BitVec 32 := Scalar.addi v40 c2_i32_41
  let c18_i32 : BitVec 32 := 18#32
  let v62 : BitVec 1 := Scalar.cmpi .slt v61 c18_i32
  let v63 : BitVec 32 := Scalar.extui v62
  let c0_i32_42 : BitVec 32 := 0#32
  let v64 : BitVec 1 := Scalar.cmpi .ne v63 c0_i32_42
  v64

def k0_mult5 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c2_i32_53 : BitVec 32 := 2#32
  let v76 : BitVec 32 := Scalar.addi v40 c2_i32_53
  let c128_i32_54 : BitVec 32 := 128#32
  let v77 : BitVec 32 := Scalar.muli v76 c128_i32_54
  let v78 : BitVec 32 := Scalar.addi v9 v77
  v78
def k0_off32 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c2_i32_53 : BitVec 32 := 2#32
  let v76 : BitVec 32 := Scalar.addi v40 c2_i32_53
  let c128_i32_54 : BitVec 32 := 128#32
  let v77 : BitVec 32 := Scalar.muli v76 c128_i32_54
  let v78 : BitVec 32 := Scalar.addi v9 v77
  let v79 : BitVec 32 := v78
  let c0_i32_55 : BitVec 32 := 0#32
  ![v79.toNat, 0]
def k0_off33 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c2_i32_53 : BitVec 32 := 2#32
  let v76 : BitVec 32 := Scalar.addi v40 c2_i32_53
  let c128_i32_54 : BitVec 32 := 128#32
  let v77 : BitVec 32 := Scalar.muli v76 c128_i32_54
  let v78 : BitVec 32 := Scalar.addi v9 v77
  let v79 : BitVec 32 := v78
  ![v79.toNat]
def k0_mult6 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c0_i32_26 : BitVec 32 := 0#32
  let c0_i32_8 : BitVec 32 := 0#32
  let c1_i32_9 : BitVec 32 := 1#32
  let arg14 : BitVec 32 := Scf.iv c0_i32_8 c1_i32_9 k0_t2
  let c2_i32 : BitVec 32 := 2#32
  let v39 : BitVec 32 := Scalar.muli arg14 c2_i32
  let v40 : BitVec 32 := Scalar.addi c0_i32_26 v39
  let c1_i32_43 : BitVec 32 := 1#32
  let v65 : BitVec 32 := Scalar.addi v40 c1_i32_43
  let c128_i32_44 : BitVec 32 := 128#32
  let v66 : BitVec 32 := Scalar.muli v65 c128_i32_44
  let v67 : BitVec 32 := Scalar.addi v9 v66
  v67
@[reducible] def k0_t4_loop : Scf.Loop 32 :=
  let c0_i32_49 : BitVec 32 := 0#32
  let c128_i32_50 : BitVec 32 := 128#32
  let v75 : BitVec 32 := Scalar.addi c0_i32_49 c128_i32_50
  let c1_i32_51 : BitVec 32 := 1#32
  ⟨c0_i32_49, v75, c1_i32_51⟩
def k0_off34 (k0_t4 : Fin k0_t4_loop.trips) : Fin 1 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v78 : Index := Scalar.indexCast v77
  ![v78.toNat]
def k0_off35 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v83 : Index := Scalar.indexCast v77
  let c0 : Index := 0#32
  ![v83.toNat, 0]
def k0_off36 (v82 : BitVec 32) : Fin 2 → Nat :=
  let v86 : Index := Scalar.indexCast v82
  let c0_55 : Index := 0#32
  ![v86.toNat, 0]

def k0_off37 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v94 : Index := Scalar.indexCast v77
  let c16 : Index := 16#32
  ![v94.toNat, 16]
def k0_off38 (v82 : BitVec 32) : Fin 2 → Nat :=
  let v97 : Index := Scalar.indexCast v82
  let c16_57 : Index := 16#32
  ![v97.toNat, 16]
def k0_off39 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v105 : Index := Scalar.indexCast v77
  let c32 : Index := 32#32
  ![v105.toNat, 32]
def k0_off40 (v82 : BitVec 32) : Fin 2 → Nat :=
  let v108 : Index := Scalar.indexCast v82
  let c32_59 : Index := 32#32
  ![v108.toNat, 32]
def k0_off41 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v116 : Index := Scalar.indexCast v77
  let c48 : Index := 48#32
  ![v116.toNat, 48]
def k0_off42 (v82 : BitVec 32) : Fin 2 → Nat :=
  let v119 : Index := Scalar.indexCast v82
  let c48_61 : Index := 48#32
  ![v119.toNat, 48]
def k0_off43 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v127 : Index := Scalar.indexCast v77
  let c64 : Index := 64#32
  ![v127.toNat, 64]
def k0_off44 (v82 : BitVec 32) : Fin 2 → Nat :=
  let v130 : Index := Scalar.indexCast v82
  let c64_63 : Index := 64#32
  ![v130.toNat, 64]
def k0_off45 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v138 : Index := Scalar.indexCast v77
  let c80 : Index := 80#32
  ![v138.toNat, 80]
def k0_off46 (v82 : BitVec 32) : Fin 2 → Nat :=
  let v141 : Index := Scalar.indexCast v82
  let c80_65 : Index := 80#32
  ![v141.toNat, 80]
def k0_off47 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v149 : Index := Scalar.indexCast v77
  let c96 : Index := 96#32
  ![v149.toNat, 96]
def k0_off48 (v82 : BitVec 32) : Fin 2 → Nat :=
  let v152 : Index := Scalar.indexCast v82
  let c96_67 : Index := 96#32
  ![v152.toNat, 96]
def k0_off49 (k0_t4 : Fin k0_t4_loop.trips) : Fin 2 → Nat :=
  let c0_i32_54 : BitVec 32 := 0#32
  let c0_i32_49 : BitVec 32 := 0#32
  let c1_i32_51 : BitVec 32 := 1#32
  let arg15 : BitVec 32 := Scf.iv c0_i32_49 c1_i32_51 k0_t4
  let c1_i32_53 : BitVec 32 := 1#32
  let v76 : BitVec 32 := Scalar.muli arg15 c1_i32_53
  let v77 : BitVec 32 := Scalar.addi c0_i32_54 v76
  let v160 : Index := Scalar.indexCast v77
  let c112 : Index := 112#32
  ![v160.toNat, 112]
def k0_off50 (v82 : BitVec 32) : Fin 2 → Nat :=
  let v163 : Index := Scalar.indexCast v82
  let c112_69 : Index := 112#32
  ![v163.toNat, 112]

def k0_chk2 (v82 : BitVec 32) : Prop :=
  (∀ a, (k0_off36 v82) a + S1x16.size a ≤ S512x128.size a) ∧
  (∀ a, (k0_off38 v82) a + S1x16.size a ≤ S512x128.size a) ∧
  (∀ a, (k0_off40 v82) a + S1x16.size a ≤ S512x128.size a) ∧
  (∀ a, (k0_off42 v82) a + S1x16.size a ≤ S512x128.size a) ∧
  (∀ a, (k0_off44 v82) a + S1x16.size a ≤ S512x128.size a) ∧
  (∀ a, (k0_off46 v82) a + S1x16.size a ≤ S512x128.size a) ∧
  (∀ a, (k0_off48 v82) a + S1x16.size a ≤ S512x128.size a) ∧
  (∀ a, (k0_off50 v82) a + S1x16.size a ≤ S512x128.size a)
theorem k0_off36_inb : ∀ (v82 : BitVec 32) (k0_hw2 : k0_chk2 v82), ∀ a, (k0_off36 v82) a + S1x16.size a ≤ S512x128.size a := fun v82 k0_hw2 => k0_hw2.1
theorem k0_off38_inb : ∀ (v82 : BitVec 32) (k0_hw2 : k0_chk2 v82), ∀ a, (k0_off38 v82) a + S1x16.size a ≤ S512x128.size a := fun v82 k0_hw2 => k0_hw2.2.1
theorem k0_off40_inb : ∀ (v82 : BitVec 32) (k0_hw2 : k0_chk2 v82), ∀ a, (k0_off40 v82) a + S1x16.size a ≤ S512x128.size a := fun v82 k0_hw2 => k0_hw2.2.2.1
theorem k0_off42_inb : ∀ (v82 : BitVec 32) (k0_hw2 : k0_chk2 v82), ∀ a, (k0_off42 v82) a + S1x16.size a ≤ S512x128.size a := fun v82 k0_hw2 => k0_hw2.2.2.2.1
theorem k0_off44_inb : ∀ (v82 : BitVec 32) (k0_hw2 : k0_chk2 v82), ∀ a, (k0_off44 v82) a + S1x16.size a ≤ S512x128.size a := fun v82 k0_hw2 => k0_hw2.2.2.2.2.1
theorem k0_off46_inb : ∀ (v82 : BitVec 32) (k0_hw2 : k0_chk2 v82), ∀ a, (k0_off46 v82) a + S1x16.size a ≤ S512x128.size a := fun v82 k0_hw2 => k0_hw2.2.2.2.2.2.1
theorem k0_off48_inb : ∀ (v82 : BitVec 32) (k0_hw2 : k0_chk2 v82), ∀ a, (k0_off48 v82) a + S1x16.size a ≤ S512x128.size a := fun v82 k0_hw2 => k0_hw2.2.2.2.2.2.2.1
theorem k0_off50_inb : ∀ (v82 : BitVec 32) (k0_hw2 : k0_chk2 v82), ∀ a, (k0_off50 v82) a + S1x16.size a ≤ S512x128.size a := fun v82 k0_hw2 => k0_hw2.2.2.2.2.2.2.2

def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c2304_i32 : BitVec 32 := 2304#32
  let v21 : BitVec 32 := Scalar.addi v9 c2304_i32
  v21
def k0_cond2 (i : grid0.Coords) : BitVec 1 :=
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_12 : BitVec 32 := 8#32
  let v24 : BitVec 1 := Scalar.cmpi .eq v10 c8_i32_12
  let v25 : BitVec 32 := Scalar.extui v24
  let c0_i32_13 : BitVec 32 := 0#32
  let v26 : BitVec 1 := Scalar.cmpi .ne v25 c0_i32_13
  v26

def k0_off51 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c2304_i32 : BitVec 32 := 2304#32
  let v21 : BitVec 32 := Scalar.addi v9 c2304_i32
  let v22 : BitVec 32 := v21
  let c0_i32_28_r0 : BitVec 32 := 0#32
  ![v22.toNat, 0]
def k0_off52 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c2304_i32 : BitVec 32 := 2304#32
  let v21 : BitVec 32 := Scalar.addi v9 c2304_i32
  let v22 : BitVec 32 := v21
  ![v22.toNat]
def k0_cond3 (i : grid0.Coords) : BitVec 1 :=
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c9_i32_14 : BitVec 32 := 9#32
  let v27 : BitVec 1 := Scalar.cmpi .eq v10 c9_i32_14
  let v28 : BitVec 32 := Scalar.extui v27
  let c0_i32_15 : BitVec 32 := 0#32
  let v29 : BitVec 1 := Scalar.cmpi .ne v28 c0_i32_15
  v29

def k0_off53 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c2304_i32 : BitVec 32 := 2304#32
  let v21 : BitVec 32 := Scalar.addi v9 c2304_i32
  let v22 : BitVec 32 := v21
  let c0_i32_28_r2 : BitVec 32 := 0#32
  ![v22.toNat, 0]
def k0_off54 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c296_i32 : BitVec 32 := 296#32
  let v2 : BitVec 32 := Scalar.muli v1 c296_i32
  let c28_i32 : BitVec 32 := 28#32
  let v3 : BitVec 32 := Scalar.minsi v1 c28_i32
  let v4 : BitVec 32 := Scalar.addi v2 v3
  let c8_i32 : BitVec 32 := 8#32
  let v8 : BitVec 32 := Scalar.muli v4 c8_i32
  let v9 : BitVec 32 := v8
  let c2304_i32 : BitVec 32 := 2304#32
  let v21 : BitVec 32 := Scalar.addi v9 c2304_i32
  let v22 : BitVec 32 := v21
  ![v22.toNat]
@[reducible] def k0_t5_loop (i : grid0.Coords) : Scf.Loop 32 :=
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_24 : BitVec 32 := 1#32
  ⟨c0_i32_22, v38, c1_i32_24⟩
def k0_off55 (i : grid0.Coords) (k0_t5 : Fin (k0_t5_loop i).trips) : Fin 1 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v41 : Index := Scalar.indexCast v40
  ![v41.toNat]
def k0_off56 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v46 : Index := Scalar.indexCast v40
  let c0 : Index := 0#32
  ![v46.toNat, 0]
def k0_off57 (v45 : BitVec 32) : Fin 2 → Nat :=
  let v49 : Index := Scalar.indexCast v45
  let c0_26 : Index := 0#32
  ![v49.toNat, 0]

def k0_off58 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v57 : Index := Scalar.indexCast v40
  let c16 : Index := 16#32
  ![v57.toNat, 16]
def k0_off59 (v45 : BitVec 32) : Fin 2 → Nat :=
  let v60 : Index := Scalar.indexCast v45
  let c16_28 : Index := 16#32
  ![v60.toNat, 16]
def k0_off60 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v68 : Index := Scalar.indexCast v40
  let c32 : Index := 32#32
  ![v68.toNat, 32]
def k0_off61 (v45 : BitVec 32) : Fin 2 → Nat :=
  let v71 : Index := Scalar.indexCast v45
  let c32_30 : Index := 32#32
  ![v71.toNat, 32]
def k0_off62 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v79 : Index := Scalar.indexCast v40
  let c48 : Index := 48#32
  ![v79.toNat, 48]
def k0_off63 (v45 : BitVec 32) : Fin 2 → Nat :=
  let v82 : Index := Scalar.indexCast v45
  let c48_32 : Index := 48#32
  ![v82.toNat, 48]
def k0_off64 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v90 : Index := Scalar.indexCast v40
  let c64 : Index := 64#32
  ![v90.toNat, 64]
def k0_off65 (v45 : BitVec 32) : Fin 2 → Nat :=
  let v93 : Index := Scalar.indexCast v45
  let c64_34 : Index := 64#32
  ![v93.toNat, 64]
def k0_off66 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v101 : Index := Scalar.indexCast v40
  let c80 : Index := 80#32
  ![v101.toNat, 80]
def k0_off67 (v45 : BitVec 32) : Fin 2 → Nat :=
  let v104 : Index := Scalar.indexCast v45
  let c80_36 : Index := 80#32
  ![v104.toNat, 80]
def k0_off68 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v112 : Index := Scalar.indexCast v40
  let c96 : Index := 96#32
  ![v112.toNat, 96]
def k0_off69 (v45 : BitVec 32) : Fin 2 → Nat :=
  let v115 : Index := Scalar.indexCast v45
  let c96_38 : Index := 96#32
  ![v115.toNat, 96]
def k0_off70 (i : grid0.Coords) (k0_t5 : Fin (k0_t5_loop i).trips) : Fin 2 → Nat :=
  let c0_i32_21 : BitVec 32 := 0#32
  let c0_i32_22 : BitVec 32 := 0#32
  let c1_i32_24 : BitVec 32 := 1#32
  let arg14 : BitVec 32 := Scf.iv c0_i32_22 c1_i32_24 k0_t5
  let c1_i32_20 : BitVec 32 := 1#32
  let v39 : BitVec 32 := Scalar.muli arg14 c1_i32_20
  let v40 : BitVec 32 := Scalar.addi c0_i32_21 v39
  let v123 : Index := Scalar.indexCast v40
  let c112 : Index := 112#32
  ![v123.toNat, 112]
def k0_off71 (v45 : BitVec 32) : Fin 2 → Nat :=
  let v126 : Index := Scalar.indexCast v45
  let c112_40 : Index := 112#32
  ![v126.toNat, 112]

def k0_chk3 (v45 : BitVec 32) : Prop :=
  (∀ a, (k0_off57 v45) a + S1x16.size a ≤ S512x128.size a) ∧
  (∀ a, (k0_off59 v45) a + S1x16.size a ≤ S512x128.size a) ∧
  (∀ a, (k0_off61 v45) a + S1x16.size a ≤ S512x128.size a) ∧
  (∀ a, (k0_off63 v45) a + S1x16.size a ≤ S512x128.size a) ∧
  (∀ a, (k0_off65 v45) a + S1x16.size a ≤ S512x128.size a) ∧
  (∀ a, (k0_off67 v45) a + S1x16.size a ≤ S512x128.size a) ∧
  (∀ a, (k0_off69 v45) a + S1x16.size a ≤ S512x128.size a) ∧
  (∀ a, (k0_off71 v45) a + S1x16.size a ≤ S512x128.size a)
theorem k0_off57_inb : ∀ (v45 : BitVec 32) (k0_hw3 : k0_chk3 v45), ∀ a, (k0_off57 v45) a + S1x16.size a ≤ S512x128.size a := fun v45 k0_hw3 => k0_hw3.1
theorem k0_off59_inb : ∀ (v45 : BitVec 32) (k0_hw3 : k0_chk3 v45), ∀ a, (k0_off59 v45) a + S1x16.size a ≤ S512x128.size a := fun v45 k0_hw3 => k0_hw3.2.1
theorem k0_off61_inb : ∀ (v45 : BitVec 32) (k0_hw3 : k0_chk3 v45), ∀ a, (k0_off61 v45) a + S1x16.size a ≤ S512x128.size a := fun v45 k0_hw3 => k0_hw3.2.2.1
theorem k0_off63_inb : ∀ (v45 : BitVec 32) (k0_hw3 : k0_chk3 v45), ∀ a, (k0_off63 v45) a + S1x16.size a ≤ S512x128.size a := fun v45 k0_hw3 => k0_hw3.2.2.2.1
theorem k0_off65_inb : ∀ (v45 : BitVec 32) (k0_hw3 : k0_chk3 v45), ∀ a, (k0_off65 v45) a + S1x16.size a ≤ S512x128.size a := fun v45 k0_hw3 => k0_hw3.2.2.2.2.1
theorem k0_off67_inb : ∀ (v45 : BitVec 32) (k0_hw3 : k0_chk3 v45), ∀ a, (k0_off67 v45) a + S1x16.size a ≤ S512x128.size a := fun v45 k0_hw3 => k0_hw3.2.2.2.2.2.1
theorem k0_off69_inb : ∀ (v45 : BitVec 32) (k0_hw3 : k0_chk3 v45), ∀ a, (k0_off69 v45) a + S1x16.size a ≤ S512x128.size a := fun v45 k0_hw3 => k0_hw3.2.2.2.2.2.2.1
theorem k0_off71_inb : ∀ (v45 : BitVec 32) (k0_hw3 : k0_chk3 v45), ∀ a, (k0_off71 v45) a + S1x16.size a ≤ S512x128.size a := fun v45 k0_hw3 => k0_hw3.2.2.2.2.2.2.2

@[reducible] def k0_t6_loop (i : grid0.Coords) : Scf.Loop 32 :=
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let v35 : BitVec 32 := Scalar.addi c0_i32_22 v34
  let c1_i32_25 : BitVec 32 := 1#32
  ⟨v38, v35, c1_i32_25⟩
def k0_off72 (i : grid0.Coords) (k0_t6 : Fin (k0_t6_loop i).trips) : Fin 1 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v41 : Index := Scalar.indexCast v40
  ![v41.toNat]
def k0_off73 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v46 : Index := Scalar.indexCast v40
  let c0 : Index := 0#32
  ![v46.toNat, 0]
def k0_off74 (v45 : BitVec 32) : Fin 2 → Nat :=
  let v49 : Index := Scalar.indexCast v45
  let c0_26 : Index := 0#32
  ![v49.toNat, 0]

def k0_off75 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v57 : Index := Scalar.indexCast v40
  let c16 : Index := 16#32
  ![v57.toNat, 16]
def k0_off76 (v45 : BitVec 32) : Fin 2 → Nat :=
  let v60 : Index := Scalar.indexCast v45
  let c16_28 : Index := 16#32
  ![v60.toNat, 16]
def k0_off77 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v68 : Index := Scalar.indexCast v40
  let c32 : Index := 32#32
  ![v68.toNat, 32]
def k0_off78 (v45 : BitVec 32) : Fin 2 → Nat :=
  let v71 : Index := Scalar.indexCast v45
  let c32_30 : Index := 32#32
  ![v71.toNat, 32]
def k0_off79 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v79 : Index := Scalar.indexCast v40
  let c48 : Index := 48#32
  ![v79.toNat, 48]
def k0_off80 (v45 : BitVec 32) : Fin 2 → Nat :=
  let v82 : Index := Scalar.indexCast v45
  let c48_32 : Index := 48#32
  ![v82.toNat, 48]
def k0_off81 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v90 : Index := Scalar.indexCast v40
  let c64 : Index := 64#32
  ![v90.toNat, 64]
def k0_off82 (v45 : BitVec 32) : Fin 2 → Nat :=
  let v93 : Index := Scalar.indexCast v45
  let c64_34 : Index := 64#32
  ![v93.toNat, 64]
def k0_off83 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v101 : Index := Scalar.indexCast v40
  let c80 : Index := 80#32
  ![v101.toNat, 80]
def k0_off84 (v45 : BitVec 32) : Fin 2 → Nat :=
  let v104 : Index := Scalar.indexCast v45
  let c80_36 : Index := 80#32
  ![v104.toNat, 80]
def k0_off85 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v112 : Index := Scalar.indexCast v40
  let c96 : Index := 96#32
  ![v112.toNat, 96]
def k0_off86 (v45 : BitVec 32) : Fin 2 → Nat :=
  let v115 : Index := Scalar.indexCast v45
  let c96_38 : Index := 96#32
  ![v115.toNat, 96]
def k0_off87 (i : grid0.Coords) (k0_t6 : Fin (k0_t6_loop i).trips) : Fin 2 → Nat :=
  let c0_i32_21 : BitVec 32 := 0#32
  let c0_i32_22 : BitVec 32 := 0#32
  let c296_i32_1 : BitVec 32 := 296#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c28_i32_0 : BitVec 32 := 28#32
  let v5 : BitVec 1 := Scalar.cmpi .slt v1 c28_i32_0
  let v6 : BitVec 32 := Scalar.extui v5
  let v7 : BitVec 32 := Scalar.addi c296_i32_1 v6
  let c288_i32 : BitVec 32 := 288#32
  let v10 : BitVec 32 := Scalar.subi v7 c288_i32
  let c8_i32_11 : BitVec 32 := 8#32
  let v23 : BitVec 32 := Scalar.muli v10 c8_i32_11
  let c0_i32_16 : BitVec 32 := 0#32
  let v30 : BitVec 32 := Scalar.subi v23 c0_i32_16
  let c1_i32_17 : BitVec 32 := 1#32
  let c1_i32_18 : BitVec 32 := 1#32
  let v31 : BitVec 32 := Scalar.subi c1_i32_17 c1_i32_18
  let v32 : BitVec 32 := Scalar.addi v30 v31
  let c1_i32_19 : BitVec 32 := 1#32
  let v33 : BitVec 32 := Scalar.divsi v32 c1_i32_19
  let v34 : BitVec 32 := Scalar.subi v33 c0_i32_22
  let c1_i32_23 : BitVec 32 := 1#32
  let v36 : BitVec 32 := Scalar.divsi v34 c1_i32_23
  let v37 : BitVec 32 := Scalar.muli v36 c1_i32_23
  let v38 : BitVec 32 := Scalar.addi c0_i32_22 v37
  let c1_i32_25 : BitVec 32 := 1#32
  let arg14 : BitVec 32 := Scf.iv v38 c1_i32_25 k0_t6
  let c1_i32_20 : BitVec 32 := 1#32
  let v39 : BitVec 32 := Scalar.muli arg14 c1_i32_20
  let v40 : BitVec 32 := Scalar.addi c0_i32_21 v39
  let v123 : Index := Scalar.indexCast v40
  let c112 : Index := 112#32
  ![v123.toNat, 112]
def k0_off88 (v45 : BitVec 32) : Fin 2 → Nat :=
  let v126 : Index := Scalar.indexCast v45
  let c112_40 : Index := 112#32
  ![v126.toNat, 112]

def k0_chk4 (i : grid0.Coords) (k0_t6 : Fin (k0_t6_loop i).trips) (v45 : BitVec 32) : Prop :=
  (∀ a, (k0_off74 v45) a + S1x16.size a ≤ S512x128.size a) ∧
  (∀ a, (k0_off76 v45) a + S1x16.size a ≤ S512x128.size a) ∧
  (∀ a, (k0_off78 v45) a + S1x16.size a ≤ S512x128.size a) ∧
  (∀ a, (k0_off80 v45) a + S1x16.size a ≤ S512x128.size a) ∧
  (∀ a, (k0_off82 v45) a + S1x16.size a ≤ S512x128.size a) ∧
  (∀ a, (k0_off84 v45) a + S1x16.size a ≤ S512x128.size a) ∧
  (∀ a, (k0_off86 v45) a + S1x16.size a ≤ S512x128.size a) ∧
  (∀ a, (k0_off88 v45) a + S1x16.size a ≤ S512x128.size a)
theorem k0_off74_inb : ∀ (i : grid0.Coords) (k0_t6 : Fin (k0_t6_loop i).trips) (v45 : BitVec 32) (k0_hw4 : k0_chk4 i k0_t6 v45), ∀ a, (k0_off74 v45) a + S1x16.size a ≤ S512x128.size a := fun i k0_t6 v45 k0_hw4 => k0_hw4.1
theorem k0_off76_inb : ∀ (i : grid0.Coords) (k0_t6 : Fin (k0_t6_loop i).trips) (v45 : BitVec 32) (k0_hw4 : k0_chk4 i k0_t6 v45), ∀ a, (k0_off76 v45) a + S1x16.size a ≤ S512x128.size a := fun i k0_t6 v45 k0_hw4 => k0_hw4.2.1
theorem k0_off78_inb : ∀ (i : grid0.Coords) (k0_t6 : Fin (k0_t6_loop i).trips) (v45 : BitVec 32) (k0_hw4 : k0_chk4 i k0_t6 v45), ∀ a, (k0_off78 v45) a + S1x16.size a ≤ S512x128.size a := fun i k0_t6 v45 k0_hw4 => k0_hw4.2.2.1
theorem k0_off80_inb : ∀ (i : grid0.Coords) (k0_t6 : Fin (k0_t6_loop i).trips) (v45 : BitVec 32) (k0_hw4 : k0_chk4 i k0_t6 v45), ∀ a, (k0_off80 v45) a + S1x16.size a ≤ S512x128.size a := fun i k0_t6 v45 k0_hw4 => k0_hw4.2.2.2.1
theorem k0_off82_inb : ∀ (i : grid0.Coords) (k0_t6 : Fin (k0_t6_loop i).trips) (v45 : BitVec 32) (k0_hw4 : k0_chk4 i k0_t6 v45), ∀ a, (k0_off82 v45) a + S1x16.size a ≤ S512x128.size a := fun i k0_t6 v45 k0_hw4 => k0_hw4.2.2.2.2.1
theorem k0_off84_inb : ∀ (i : grid0.Coords) (k0_t6 : Fin (k0_t6_loop i).trips) (v45 : BitVec 32) (k0_hw4 : k0_chk4 i k0_t6 v45), ∀ a, (k0_off84 v45) a + S1x16.size a ≤ S512x128.size a := fun i k0_t6 v45 k0_hw4 => k0_hw4.2.2.2.2.2.1
theorem k0_off86_inb : ∀ (i : grid0.Coords) (k0_t6 : Fin (k0_t6_loop i).trips) (v45 : BitVec 32) (k0_hw4 : k0_chk4 i k0_t6 v45), ∀ a, (k0_off86 v45) a + S1x16.size a ≤ S512x128.size a := fun i k0_t6 v45 k0_hw4 => k0_hw4.2.2.2.2.2.2.1
theorem k0_off88_inb : ∀ (i : grid0.Coords) (k0_t6 : Fin (k0_t6_loop i).trips) (v45 : BitVec 32) (k0_hw4 : k0_chk4 i k0_t6 v45), ∀ a, (k0_off88 v45) a + S1x16.size a ≤ S512x128.size a := fun i k0_t6 v45 k0_hw4 => k0_hw4.2.2.2.2.2.2.2

def k0_off89 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_26_r4 : BitVec 32 := 0#32
  let c0_i32_27_r4 : BitVec 32 := 0#32
  ![v1.toNat, 0, 0]
abbrev grid1 : Pipeline.Grid := .none

abbrev stage1_0 : Fin 1 → Memref sig .tc .vmem S8x100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x100000 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S9x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![12], ![false]⟩

def cc2_transform_0 (i : grid2.Coords) : Fin 2 → Nat :=
  let arg0 : BitVec 32 := BitVec.ofNat 32 (i 0).val
  let c38_i32 : BitVec 32 := 38#32
  let v0 : BitVec 32 := Scalar.addi arg0 c38_i32
  let c0_i32 : BitVec 32 := 0#32
  let c0_i32_0 : BitVec 32 := 0#32
  ![v0.toNat, c0_i32.toNat]

def cc2_transform_1 (i : grid2.Coords) : Fin 3 → Nat :=
  let arg0 : BitVec 32 := BitVec.ofNat 32 (i 0).val
  let c38_i32 : BitVec 32 := 38#32
  let v0 : BitVec 32 := Scalar.addi arg0 c38_i32
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := .none

abbrev stage3_0 : Fin 1 → Memref sig .tc .vmem S32x512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S512x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S9x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x136 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S16x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S512x16 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000x8 : Shape := ⟨2, ![100000, 8]⟩
abbrev S100000 : Shape := ⟨1, ![100000]⟩
abbrev S128x136 : Shape := ⟨2, ![128, 136]⟩
abbrev S128 : Shape := ⟨1, ![128]⟩
abbrev S128x128 : Shape := ⟨2, ![128, 128]⟩
abbrev S16x128 : Shape := ⟨2, ![16, 128]⟩
abbrev S16 : Shape := ⟨1, ![16]⟩
abbrev S100000x136 : Shape := ⟨2, ![100000, 136]⟩
abbrev S136x128 : Shape := ⟨2, ![136, 128]⟩
abbrev S1x128 : Shape := ⟨2, ![1, 128]⟩
abbrev S_ : Shape := ⟨0, ![]⟩
abbrev S512x128 : Shape := ⟨2, ![512, 128]⟩
abbrev S100000x1 : Shape := ⟨2, ![100000, 1]⟩
abbrev S512x1 : Shape := ⟨2, ![512, 1]⟩
abbrev S128x16 : Shape := ⟨2, ![128, 16]⟩
abbrev S512x16 : Shape := ⟨2, ![512, 16]⟩
abbrev S1x16 : Shape := ⟨2, ![1, 16]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x8, .f32⟩
  | .hbm, ⟨2, _⟩ => ⟨S100000, .i32⟩
  | .hbm, ⟨3, _⟩ => ⟨S128x136, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S16x128, .f32⟩
  | .hbm, ⟨8, _⟩ => ⟨S16, .f32⟩
  | .hbm, ⟨9, _⟩ => ⟨S100000x136, .f32⟩
  | .hbm, ⟨10, _⟩ => ⟨S136x128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S512x128, .f32⟩
  | .hbm, ⟨17, _⟩ => ⟨S100000x1, .i32⟩
  | .hbm, ⟨18, _⟩ => ⟨S512x128, .f32⟩
  | .hbm, ⟨19, _⟩ => ⟨S_, .f32⟩
  | .hbm, ⟨20, _⟩ => ⟨S100000x1, .f32⟩
  | .hbm, ⟨21, _⟩ => ⟨S_, .f32⟩
  | .hbm, ⟨22, _⟩ => ⟨S512x1, .f32⟩
  | .hbm, ⟨23, _⟩ => ⟨S100000x1, .i32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x128, .f32⟩
  | .hbm, ⟨29, _⟩ => ⟨S512x128, .f32⟩
  | .hbm, ⟨30, _⟩ => ⟨S128x128, .f32⟩
  | .hbm, ⟨31, _⟩ => ⟨S512x128, .f32⟩
  | .hbm, ⟨32, _⟩ => ⟨S1x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S128x16, .f32⟩
  | .hbm, ⟨39, _⟩ => ⟨S512x16, .f32⟩
  | .hbm, ⟨40, _⟩ => ⟨S1x16, .f32⟩
  | .hbm, ⟨41, _⟩ => ⟨S512x16, .f32⟩
  | .hbm, ⟨42, _⟩ => ⟨S512x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Base.lean ====
/-
  The program as the SparseCore launch theorem sees it, and the arrays and scratch buffers of the one SparseCore call
  (the segment sum), named once for the modules that follow.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.Value
public import Idealize.ShloMosaic.Lib.ValueIdxCore
public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipelines' rounds library, the transfers' counters -/

abbrev UH : Type := URounds (GSem nD τ sig) ℕ
/-- The staging cells' rounds of the three TensorCore pipelines. -/
abbrev UP : Type := URounds (GSem nD τ sig) Unit
abbrev UU : Type := UH × (UP × Counters)

/-- The algebra of the proof's assertions. -/
abbrev MM (F : FTy → Type) : Type := MT nD τ sig (HIx 1) (Elt F) ℕ UU ℕ

abbrev EH : Emb UH (MT nD τ sig (HIx 1) (Elt F) ℕ UU ℕ) := embL
/-- The pipelines' rounds library inside the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The initial ghost element split into the handshakes' part and the pipelines'. -/
theorem ownU_split (a : UH) (b : UP) :
    (ownU ((a, (b, 1)) : UU) : sProp (MT nD τ sig (HIx 1) (Elt F) ℕ UU ℕ)) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-! ## The arrays and the scratch, as a vector subcore names them -/

abbrev xV : Memref sig .scVector .hbm S100000x128 .f32 := Memref.whole main_arg0_scv
abbrev bV : Memref sig .scVector .hbm S100000 .i32 := Memref.whole main_arg2_scv
abbrev oV : Memref sig .scVector .hbm S32x512x128 .f32 := Memref.whole main_v0_scv
abbrev rV0 : Memref sig .scVector .vmem S128x128 .f32 := Memref.whole cc0_scratch0
abbrev rV1 : Memref sig .scVector .vmem S128x128 .f32 := Memref.whole cc0_scratch1
abbrev iV0 : Memref sig .scVector .vmem S144 .i32 := Memref.whole cc0_scratch2
abbrev iV1 : Memref sig .scVector .vmem S144 .i32 := Memref.whole cc0_scratch3
abbrev aV : Memref sig .scVector .vmem S512x128 .f32 := Memref.whole cc0_scratch4

/-- The SparseCore and the vector subcore of grid coordinates `L`, and the thread they are on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Seg

end
-- ==== Proof.Rows.lean ====
/-
  One row of the segment sum: what a trip of a row loop leaves in the tile's accumulator — row `seg` of it with the
  row of the buffer added, `seg` the row's segment id.
-/
module

public import proofs.«01_k».proof.Proof.Base

@[expose] public section

noncomputable section

namespace Cert.Proof.Seg

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A row body at named buffers: of the first buffer's loop, the second's, and the tail's. -/
abbrev t3B (L : grid0.Coords) (rb : Memref sig .scVector .vmem S128x128 .f32) (hrb : rb.IsWhole) (ib : Memref sig .scVector .vmem S144 .i32) (hib : ib.IsWhole) (ab : Memref sig .scVector .vmem S512x128 .f32) (hab : ab.IsWhole) (k2 : Fin k0_t2_loop.trips) :=
  k0_t3_body (F := F) L xV (Memref.isWhole_whole _) bV (Memref.isWhole_whole _) oV (Memref.isWhole_whole _) rb hrb rV1 (Memref.isWhole_whole _) ib hib iV1 (Memref.isWhole_whole _) ab hab
    cc0_scratch5 cc0_scratch6 cc0_scratch7 cc0_scratch8 cc0_scoped0 cc0_scoped1 cc0_scoped2 cc0_scoped3 cc0_scoped4 0#32 0#32 1#32 k2

abbrev t4B (L : grid0.Coords) (rb : Memref sig .scVector .vmem S128x128 .f32) (hrb : rb.IsWhole) (ib : Memref sig .scVector .vmem S144 .i32) (hib : ib.IsWhole) (ab : Memref sig .scVector .vmem S512x128 .f32) (hab : ab.IsWhole) :=
  k0_t4_body (F := F) L xV (Memref.isWhole_whole _) bV (Memref.isWhole_whole _) oV (Memref.isWhole_whole _) rV1 (Memref.isWhole_whole _) rb hrb  iV1 (Memref.isWhole_whole _) ib hib ab hab
    cc0_scratch5 cc0_scratch6 cc0_scratch7 cc0_scratch8 cc0_scoped0 cc0_scoped1 cc0_scoped2 cc0_scoped3 cc0_scoped4

abbrev t5B (L : grid0.Coords) (rb : Memref sig .scVector .vmem S128x128 .f32) (hrb : rb.IsWhole) (ib : Memref sig .scVector .vmem S144 .i32) (hib : ib.IsWhole) (ab : Memref sig .scVector .vmem S512x128 .f32) (hab : ab.IsWhole) :=
  k0_t5_body (F := F) L xV (Memref.isWhole_whole _) bV (Memref.isWhole_whole _) oV (Memref.isWhole_whole _) rb hrb rV1 (Memref.isWhole_whole _) ib hib iV1 (Memref.isWhole_whole _) ab hab
    cc0_scratch5 cc0_scratch6 cc0_scratch7 cc0_scratch8 cc0_scoped0 cc0_scoped1 cc0_scoped2 cc0_scoped3 cc0_scoped4

/-- The second buffer's row body is the first's, the buffers exchanged. -/
theorem t4_eq (L rb hrb ib hib ab hab k2) : t4B (F := F) L rb hrb ib hib ab hab = t3B L rb hrb ib hib ab hab k2 := rfl

/-- The side condition of the body holds of every segment id below 512. -/
theorem chk_of_lt (v : BitVec 32) (h : v.toNat < 512) : k0_chk1 v := by
  unfold k0_chk1
  refine ⟨?_, ?_, ?_, ?_, ?_, ?_, ?_, ?_⟩ <;> intro a <;> fin_cases a <;>
    simp [k0_off17, k0_off19, k0_off21, k0_off23, k0_off25, k0_off27, k0_off29, k0_off31, Scalar.indexCast] <;> omega

/-- The tail loop's body is the chunk loops' row body at the same row. -/
theorem t5_eq (L rb hrb ib hib ab hab k2) (k : Fin (k0_t5_loop L).trips) (h : k.val < k0_t3_loop.trips) (u : Unit) :
    t5B (F := F) L rb hrb ib hib ab hab k u = t3B L rb hrb ib hib ab hab k2 ⟨k.val, h⟩ u := rfl

/-- The sum the body stores is the lanewise sum of what it read. -/
theorem pay_eq (a b : Vec F S1x16 .f32) : k0_pay11 a b = fun x => FloatOps.addf (b x) (a x) := by
  funext x
  have ea := congrFun (shapeCast_shapeCast a shapeCasts_S1x16_S16 shapeCasts_S16_S1x16) x
  have eb := congrFun (shapeCast_shapeCast b shapeCasts_S1x16_S16 shapeCasts_S16_S1x16) x
  show FloatOps.addf (shapeCast S1x16 (shapeCast S16 b shapeCasts_S1x16_S16) shapeCasts_S16_S1x16 x)
    (shapeCast S1x16 (shapeCast S16 a shapeCasts_S1x16_S16) shapeCasts_S16_S1x16 x) = _
  rw [ea, eb]

/-- An index of the accumulator, and of a row buffer. -/
abbrev aI (g : Fin 512) (j : Fin 128) : S512x128.Idx := ValueIdx.ix2 g j
abbrev rI (k : Fin 128) (j : Fin 128) : S128x128.Idx := ValueIdx.ix2 k j

/-- The accumulator with row `row` added to its row `g`, lanes `lo ≤ j < hi` only. -/
def addLanes (A : S512x128.Idx → F .f32) (g : ℕ) (row : Fin 128 → F .f32) (lo hi : ℕ) : S512x128.Idx → F .f32 :=
  fun y => if (y 0).val = g ∧ lo ≤ (y 1).val ∧ (y 1).val < hi then FloatOps.addf (A y) (row (y 1)) else A y

theorem seg_step {κ : Kind} {sp : Space} (v : View sig κ sp S512x128 .f32) (f : v.ty.Contents (Elt F)) (Ls : List (View.Piece (Elt F) S512x128 .f32))
    {κ' : Kind} {sp' : Space} (w : View sig κ' sp' S128x128 .f32) (fr : w.ty.Contents (Elt F))
    (A : S512x128.Idx → F .f32) (row : Fin 128 → F .f32) (g o : ℕ) (off : Fin 2 → ℕ) (offr : Fin 2 → ℕ)
    (hA : v.read (Elt F) (v.writes (Elt F) f Ls) = addLanes A g row 0 o)
    (k : Fin 128) (hrow : ∀ j, w.read (Elt F) fr (rI k j) = row j)
    (hoff : off = ![g, o]) (hoffr : offr = ![k.val, o])
    (h1 : ∀ a, off a + S1x16.size a ≤ S512x128.size a) (h2 : ∀ a, offr a + S1x16.size a ≤ S128x128.size a) :
    v.read (Elt F) (v.writes (Elt F) f (⟨Rect.unit (s := S512x128) off S1x16.size h1,
      k0_pay11 (w.readAt (Elt F) (Rect.unit (s := S128x128) offr S1x16.size h2).toLoadRect fr)
        (v.readAt (Elt F) (Rect.unit (s := S512x128) off S1x16.size h1).toLoadRect (v.writes (Elt F) f Ls))⟩ :: Ls))
      = addLanes A g row 0 (o + 16) := by
  subst hoff hoffr
  funext y
  obtain ⟨a, b, rfl⟩ : ∃ (a : Fin 512) (b : Fin 128), y = ValueIdx.ix2 a b := ⟨y 0, y 1, ValueIdx.eq_ix2 y⟩
  show _ = if a.val = g ∧ 0 ≤ b.val ∧ b.val < o + 16 then FloatOps.addf (A (ValueIdx.ix2 a b)) (row b) else A (ValueIdx.ix2 a b)
  have hA' : v.read (Elt F) (v.writes (Elt F) f Ls) (ValueIdx.ix2 a b)
      = if a.val = g ∧ 0 ≤ b.val ∧ b.val < o then FloatOps.addf (A (ValueIdx.ix2 a b)) (row b) else A (ValueIdx.ix2 a b) := congrFun hA _
  by_cases hin : a.val = g ∧ o ≤ b.val ∧ b.val < o + 16
  · obtain ⟨h0, hlo, hhi⟩ := hin
    have e1 : ∀ hb, (Rect.unit (s := S512x128) ![g, o] S1x16.size hb).emb (ValueIdx.ix2 (0 : Fin 1) (⟨b.val - o, by omega⟩ : Fin 16) : S1x16.Idx) = ValueIdx.ix2 a b := by
      intro hb
      refine Rect.emb_eq_of_coords _ _ _ fun c => ?_
      fin_cases c
      · show a.val = g + 1 * 0
        omega
      · show b.val = o + 1 * (b.val - o)
        omega
    have e2 : ∀ hb, (Rect.unit (s := S128x128) ![k.val, o] S1x16.size hb).emb (ValueIdx.ix2 (0 : Fin 1) (⟨b.val - o, by omega⟩ : Fin 16) : S1x16.Idx) = rI k b := by
      intro hb
      refine Rect.emb_eq_of_coords _ _ _ fun c => ?_
      fin_cases c
      · show k.val = k.val + 1 * 0
        omega
      · show b.val = o + 1 * (b.val - o)
        omega
    rw [View.read_writes_cons_hit v f _ _ _ _ _ (e1 h1), pay_eq]
    simp only [View.readAt_rect]
    show FloatOps.addf (v.read (Elt F) (v.writes (Elt F) f Ls) ((Rect.unit (s := S512x128) ![g, o] S1x16.size h1).emb _)) (w.read (Elt F) fr ((Rect.unit (s := S128x128) ![k.val, o] S1x16.size h2).emb _)) = _
    rw [e1, e2, hA', hrow, if_neg (by omega), if_pos (by omega)]
  · have hm : v.read (Elt F) (v.writes (Elt F) f (⟨Rect.unit (s := S512x128) ![g, o] S1x16.size h1,
      k0_pay11 (w.readAt (Elt F) (Rect.unit (s := S128x128) ![k.val, o] S1x16.size h2).toLoadRect fr)
        (v.readAt (Elt F) (Rect.unit (s := S512x128) ![g, o] S1x16.size h1).toLoadRect (v.writes (Elt F) f Ls))⟩ :: Ls)) (ValueIdx.ix2 a b)
        = v.read (Elt F) (v.writes (Elt F) f Ls) (ValueIdx.ix2 a b) := by
      by_cases h0 : a.val = g
      · exact View.read_writes_cons_miss_of_axis v f _ _ (ValueIdx.ix2 a b) 1 o 16 rfl rfl rfl (show b.val < o ∨ o + 16 ≤ b.val by omega)
      · exact View.read_writes_cons_miss_of_axis v f _ _ (ValueIdx.ix2 a b) 0 g 1 rfl rfl rfl (show a.val < g ∨ g + 1 ≤ a.val by omega)
    rw [hm, hA']
    by_cases h : a.val = g ∧ 0 ≤ b.val ∧ b.val < o
    · rw [if_pos h, if_pos (by omega)]
    · rw [if_neg h, if_neg (by omega)]

/-- Contents that read as `G` are some contents that do. -/
theorem acc_out (d : Dev nD) (L : grid0.Coords) (ab : Memref sig .scVector .vmem S512x128 .f32) (G : S512x128.Idx → F .f32)
    {fa : Buf (Elt F) (ab.view.loc (thr d L))} :
    (ab.view.loc (thr d L) ↦{fullShare} fa : sProp (MM F)) ⊢ iprop(⌜ab.view.read (Elt F) fa = G⌝ -∗
      ∃ fa', ⌜ab.view.read (Elt F) fa' = G⌝ ∗ (ab.view.loc (thr d L) ↦{fullShare} fa')) := by
  iintro Ha %h
  iexists fa
  isplitr [Ha]
  · ipureintro
    exact h
  · iexact Ha

/-- A trip of a row loop: the row's segment id read from the id buffer, the row added to the accumulator's row of that id. -/
theorem t3_trip (d : Dev nD) (L : grid0.Coords) (k2 : Fin k0_t2_loop.trips) (k : Fin k0_t3_loop.trips)
    (rb : Memref sig .scVector .vmem S128x128 .f32) (hrb : rb.IsWhole) (ib : Memref sig .scVector .vmem S144 .i32) (hib : ib.IsWhole) (ab : Memref sig .scVector .vmem S512x128 .f32) (hab : ab.IsWhole)
    (fr : Buf (Elt F) (rb.view.loc (thr d L))) (fi : Buf (Elt F) (ib.view.loc (thr d L)))
    (fa : Buf (Elt F) (ab.view.loc (thr d L))) (u : Unit)
    (kr : Fin 128) (hkr : kr.val = k.val) (g : ℕ) (hg : ((ib.view.read (Elt F) fi (ValueIdx.ix1 (⟨k.val, by omega⟩ : Fin 144)) : BitVec 32)).toNat = g) (hg' : g < 512)
    (row : Fin 128 → F .f32) (hrow : ∀ j, rb.view.read (Elt F) fr (rI kr j) = row j) :
    iprop(((rb).view.loc (thr d L) ↦{fullShare} fr) ∗ ((ib).view.loc (thr d L) ↦{fullShare} fi)
       ∗ (ab.view.loc (thr d L) ↦{fullShare} fa) : sProp (MM F))
     ⊢ wp frame (wpE (defs₀ (F := F)) 𝒱₀ (thr d L) none) Set.univ (t3B L rb hrb ib hib ab hab k2 k u)
        fun _ => iprop(((rb).view.loc (thr d L) ↦{fullShare} fr) ∗ ((ib).view.loc (thr d L) ↦{fullShare} fi)
          ∗ ∃ fa', ⌜ab.view.read (Elt F) fa' = addLanes (ab.view.read (Elt F) fa) g row 0 128⌝ ∗ (ab.view.loc (thr d L) ↦{fullShare} fa')) := by
  have hv : (extractAt ![0] (k0_pay10 (F := F) (ib.view.readAt (Elt F) (Rect.unit (s := S144) (k0_off15 k) S16.size (k0_off15_inb k)).toLoadRect fi)) inpos_S1_p0 : BitVec 32).toNat = g := by
    rw [← hg]
    refine congrArg BitVec.toNat ?_
    unfold k0_pay10
    rw [shapeCast_self]
    refine congrArg (ib.view.read (Elt F) fi) ?_
    funext c
    fin_cases c
    refine Fin.ext ?_
    show k0_off15 k 0 + 1 * (0 + 0) = k.val
    rw [k0_off15_eq]
    rfl
  unfold t3B k0_t3_body
  simp only [k0_part2_eq_skeleton, k0_part3_eq_skeleton]
  unfold k0_part2_skel k0_part3_skel
  iintro ⟨Hr, Hi, Ha⟩
  sl_exec (disch := exact chk_of_lt _ (lt_of_eq_of_lt hv hg'))
  sl_step
  isplitl [Hr]
  · iexact Hr
  isplitl [Hi]
  · iexact Hi
  iapply (acc_out d L ab _) $$ Ha
  ipureintro
  have ho : ∀ o : ℕ, ![(Scalar.indexCast (extractAt ![0] (k0_pay10 (F := F) (ib.view.readAt (Elt F) (Rect.unit (s := S144) (k0_off15 k) S16.size (k0_off15_inb k)).toLoadRect fi)) inpos_S1_p0)).toNat, o] = ![g, o] := by
    intro o
    rw [← hv]
    rfl
  have hr : ∀ o : ℕ, ![k.val, o] = ![kr.val, o] := fun o => by rw [hkr]
  have s0 : ab.view.read (Elt F) (ab.view.writes (Elt F) fa []) = addLanes (ab.view.read (Elt F) fa) g row 0 0 := by
    funext y
    rw [addLanes, if_neg (by omega)]
    rfl
  have s1 := seg_step ab.view fa [] rb.view fr _ row g 0 (k0_off17 _) _ s0 kr hrow (ho _) ((k0_off16_eq k).trans (hr _)) (k0_off17_inb _ (chk_of_lt _ (lt_of_eq_of_lt hv hg'))) (k0_off16_inb k)
  have s2 := seg_step ab.view fa _ rb.view fr _ row g 16 (k0_off19 _) _ s1 kr hrow (ho _) ((k0_off18_eq k).trans (hr _)) (k0_off19_inb _ (chk_of_lt _ (lt_of_eq_of_lt hv hg'))) (k0_off18_inb k)
  have s3 := seg_step ab.view fa _ rb.view fr _ row g 32 (k0_off21 _) _ s2 kr hrow (ho _) ((k0_off20_eq k).trans (hr _)) (k0_off21_inb _ (chk_of_lt _ (lt_of_eq_of_lt hv hg'))) (k0_off20_inb k)
  have s4 := seg_step ab.view fa _ rb.view fr _ row g 48 (k0_off23 _) _ s3 kr hrow (ho _) ((k0_off22_eq k).trans (hr _)) (k0_off23_inb _ (chk_of_lt _ (lt_of_eq_of_lt hv hg'))) (k0_off22_inb k)
  have s5 := seg_step ab.view fa _ rb.view fr _ row g 64 (k0_off25 _) _ s4 kr hrow (ho _) ((k0_off24_eq k).trans (hr _)) (k0_off25_inb _ (chk_of_lt _ (lt_of_eq_of_lt hv hg'))) (k0_off24_inb k)
  have s6 := seg_step ab.view fa _ rb.view fr _ row g 80 (k0_off27 _) _ s5 kr hrow (ho _) ((k0_off26_eq k).trans (hr _)) (k0_off27_inb _ (chk_of_lt _ (lt_of_eq_of_lt hv hg'))) (k0_off26_inb k)
  have s7 := seg_step ab.view fa _ rb.view fr _ row g 96 (k0_off29 _) _ s6 kr hrow (ho _) ((k0_off28_eq k).trans (hr _)) (k0_off29_inb _ (chk_of_lt _ (lt_of_eq_of_lt hv hg'))) (k0_off28_inb k)
  have s8 := seg_step ab.view fa _ rb.view fr _ row g 112 (k0_off31 _) _ s7 kr hrow (ho _) ((k0_off30_eq k).trans (hr _)) (k0_off31_inb _ (chk_of_lt _ (lt_of_eq_of_lt hv hg'))) (k0_off30_inb k)
  exact s8

end Cert.Proof.Seg

end
-- ==== Proof.Acc.lean ====
/-
  The accumulator's contents as a function: `accV X B r0 n` is the tile's accumulator once the first `n` rows from row
  `r0` on have been added, each into the row its segment id names. The two kinds of loop over it: the zeroing loop
  leaves `accV … 0`, a row loop of `T` trips takes `accV … m` to `accV … (m + T)`.
-/
module

public import proofs.«01_k».proof.Proof.Rows

@[expose] public section

noncomputable section

namespace Cert.Proof.Seg

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The functions -/

/-- Row `n`'s segment id, and row `n` of the features (past the last row: nothing the kernel reads). -/
def segOf (B : S100000.Idx → BitVec 32) (n : ℕ) : ℕ := if h : n < 100000 then (B (ValueIdx.ix1 ⟨n, h⟩)).toNat else 0
def rowOf (X : S100000x128.Idx → F .f32) (n : ℕ) : Fin 128 → F .f32 :=
  fun j => if h : n < 100000 then X (ValueIdx.ix2 ⟨n, h⟩ j) else Scalar.ofBits .f32 0x00000000#32

theorem segOf_lt (B : S100000.Idx → BitVec 32) (hB : ∀ i, (B i).toNat < 512) (n : ℕ) : segOf B n < 512 := by
  unfold segOf
  split
  · exact hB _
  · omega

/-- The accumulator after the first `n` rows from row `r0` on. -/
def accV (X : S100000x128.Idx → F .f32) (B : S100000.Idx → BitVec 32) (r0 : ℕ) : ℕ → S512x128.Idx → F .f32
  | 0 => fun _ => Scalar.ofBits .f32 0x00000000#32
  | n + 1 => addLanes (accV X B r0 n) (segOf B (r0 + n)) (rowOf X (r0 + n)) 0 128

/-- A row buffer holds the rows from `base` on, its first `n`; an id buffer their segment ids. -/
def RowsAt (X : S100000x128.Idx → F .f32) (base n : ℕ) (R : S128x128.Idx → F .f32) : Prop :=
  ∀ k : Fin 128, k.val < n → ∀ j, R (rI k j) = rowOf X (base + k.val) j
def IdsAt (B : S100000.Idx → BitVec 32) (base n : ℕ) (I : S144.Idx → BitVec 32) : Prop :=
  ∀ (k : ℕ) (h : k < 144), k < n → (I (ValueIdx.ix1 ⟨k, h⟩)).toNat = segOf B (base + k)

/-! ## A row loop -/

section Rows

variable (d : Dev nD) (L : grid0.Coords) (X : S100000x128.Idx → F .f32) (B : S100000.Idx → BitVec 32) (hB : ∀ i, (B i).toNat < 512) (r0 : ℕ)
  (rb : Memref sig .scVector .vmem S128x128 .f32) (hrb : rb.IsWhole) (ib : Memref sig .scVector .vmem S144 .i32) (hib : ib.IsWhole)
  (ab : Memref sig .scVector .vmem S512x128 .f32) (hab : ab.IsWhole)

/-- A row buffer, an id buffer and the accumulator at what they hold. -/
abbrev rowsP (base n : ℕ) : sProp (MM F) := iprop(∃ f, ⌜RowsAt X base n (rb.view.read (Elt F) f)⌝ ∗ (rb.view.loc (thr d L) ↦{fullShare} f))
abbrev idsP (base n : ℕ) : sProp (MM F) := iprop(∃ f, ⌜IdsAt B base n (ib.view.read (Elt F) f)⌝ ∗ (ib.view.loc (thr d L) ↦{fullShare} f))
abbrev accP (n : ℕ) : sProp (MM F) := iprop(∃ f, ⌜ab.view.read (Elt F) f = accV X B r0 n⌝ ∗ (ab.view.loc (thr d L) ↦{fullShare} f))

include hB in
/-- A row loop of `T` trips adds the buffers' first `T` rows. -/
theorem rows_loop (k2 : Fin k0_t2_loop.trips) (m T : ℕ) (hT : T ≤ 128) (lp : Scf.Loop 32) (hok : lp.OK) (hlp : lp.trips = T)
    (body : Fin lp.trips → Unit → Prog (TpuEff nD τ sig (Elt F) Λ₀ (.scVector (cV L) (jV L))) Unit)
    (hbody : ∀ k u (h : k.val < k0_t3_loop.trips), body k u = t3B L rb hrb ib hib ab hab k2 ⟨k.val, h⟩ u) :
    iprop(rowsP d L X rb (r0 + m) T ∗ idsP (F := F) d L B ib (r0 + m) T ∗ accP d L X B r0 ab m)
      ⊢ wp frame (wpE (defs₀ (F := F)) 𝒱₀ (thr d L) none) Set.univ (Scf.Loop.for lp hok ⟨⟩ body)
          fun _ => iprop(rowsP d L X rb (r0 + m) T ∗ idsP (F := F) d L B ib (r0 + m) T ∗ accP d L X B r0 ab (m + T)) := by
  iintro H
  iapply (Scf.wp_for frame (wpE (defs₀ (F := F)) 𝒱₀ (thr d L) none) Set.univ lp.lb lp.ub lp.st hok ⟨⟩ body
    (fun k _ => iprop(rowsP d L X rb (r0 + m) T ∗ idsP (F := F) d L B ib (r0 + m) T ∗ accP d L X B r0 ab (m + k))) ?hb)
  case hb =>
    intro k acc
    have hk : k.val < T := hlp ▸ k.isLt
    have h128 : k0_t3_loop.trips = 128 := by decide +kernel
    have hk3 : k.val < k0_t3_loop.trips := by omega
    have hk8 : k.val < 128 := by omega
    rw [hbody k acc hk3]
    iintro ⟨⟨%fr, %hr, Hr⟩, ⟨%fi, %hi, Hi⟩, ⟨%fa, %ha, Ha⟩⟩
    iapply (wp_wand_r frame (wpE (defs₀ (F := F)) 𝒱₀ (thr d L) none) Set.univ)
    isplitl [Hr Hi Ha]
    · iapply (t3_trip d L k2 ⟨k.val, hk3⟩ rb hrb ib hib ab hab fr fi fa acc ⟨k.val, hk8⟩ rfl (segOf B (r0 + m + k.val))
        (hi k.val (hk8.trans (by decide)) hk) (segOf_lt B hB _) (rowOf X (r0 + m + k.val)) (hr ⟨k.val, hk8⟩ hk))
      isplitl [Hr]; · iexact Hr
      isplitl [Hi]; · iexact Hi
      iexact Ha
    · iintro %u ⟨Hr, Hi, %fa', %ha', Ha⟩
      isplitl [Hr]
      · iexists fr; isplitr; · ipureintro; exact hr
        iexact Hr
      isplitl [Hi]
      · iexists fi; isplitr; · ipureintro; exact hi
        iexact Hi
      iexists fa'; isplitr
      · ipureintro
        rw [ha', ha, ← Nat.add_assoc, accV, Nat.add_assoc r0 m]
      · iexact Ha
  isplitl [H]
  · iexact H
  · iintro %u H
    rw [show Scf.trips lp.lb lp.ub lp.st = T from hlp]
    iexact H

end Rows

/-! ## The zeroing loop -/

/-- One store of zeros into a row: the lanes below `o` of row `r`, and all rows below, hold zero; now the lanes below `o + 16` do. -/
theorem zero_step {κ : Kind} {sp : Space} (v : View sig κ sp S512x128 .f32) (f : v.ty.Contents (Elt F)) (Ls : List (View.Piece (Elt F) S512x128 .f32))
    (z : F .f32) (r o : ℕ) (off : Fin 2 → ℕ)
    (hA : ∀ (a : Fin 512) (b : Fin 128), a.val < r ∨ (a.val = r ∧ b.val < o) → v.read (Elt F) (v.writes (Elt F) f Ls) (ValueIdx.ix2 a b) = z)
    (hoff : off = ![r, o]) (h1 : ∀ a, off a + S1x16.size a ≤ S512x128.size a) (w : S1x16.Idx → F .f32) (hw : ∀ x, w x = z) :
    ∀ (a : Fin 512) (b : Fin 128), a.val < r ∨ (a.val = r ∧ b.val < o + 16) →
      v.read (Elt F) (v.writes (Elt F) f (⟨Rect.unit (s := S512x128) off S1x16.size h1, w⟩ :: Ls)) (ValueIdx.ix2 a b) = z := by
  subst hoff
  intro a b h
  by_cases hin : a.val = r ∧ o ≤ b.val
  · have e1 : (Rect.unit (s := S512x128) ![r, o] S1x16.size h1).emb (ValueIdx.ix2 (0 : Fin 1) (⟨b.val - o, by omega⟩ : Fin 16) : S1x16.Idx) = ValueIdx.ix2 a b := by
      refine Rect.emb_eq_of_coords _ _ _ fun c => ?_
      fin_cases c
      · show a.val = r + 1 * 0
        omega
      · show b.val = o + 1 * (b.val - o)
        omega
    rw [View.read_writes_cons_hit v f _ _ _ _ _ e1, hw]
  · rw [← hA a b (by omega)]
    by_cases h0 : a.val = r
    · exact View.read_writes_cons_miss_of_axis v f _ _ (ValueIdx.ix2 a b) 1 o 16 rfl rfl rfl (show b.val < o ∨ o + 16 ≤ b.val by omega)
    · exact View.read_writes_cons_miss_of_axis v f _ _ (ValueIdx.ix2 a b) 0 r 1 rfl rfl rfl (show a.val < r ∨ r + 1 ≤ a.val by omega)

/-- The zeroing loop's body at a named accumulator. -/
abbrev t1B (L : grid0.Coords) (ab : Memref sig .scVector .vmem S512x128 .f32) (hab : ab.IsWhole) :=
  k0_t1_body (F := F) L xV (Memref.isWhole_whole _) bV (Memref.isWhole_whole _) oV (Memref.isWhole_whole _) rV0 (Memref.isWhole_whole _) rV1 (Memref.isWhole_whole _)
    iV0 (Memref.isWhole_whole _) iV1 (Memref.isWhole_whole _) ab hab
    cc0_scratch5 cc0_scratch6 cc0_scratch7 cc0_scratch8 cc0_scoped0 cc0_scoped1 cc0_scoped2 cc0_scoped3 cc0_scoped4

/-- The accumulator's rows below `r` hold zero. -/
def ZeroBelow (r : ℕ) (A : S512x128.Idx → F .f32) : Prop := ∀ (a : Fin 512) (b : Fin 128), a.val < r → A (ValueIdx.ix2 a b) = Scalar.ofBits .f32 0x00000000#32

theorem zero_out (d : Dev nD) (L : grid0.Coords) (ab : Memref sig .scVector .vmem S512x128 .f32) (P : (S512x128.Idx → F .f32) → Prop)
    {fa : Buf (Elt F) (ab.view.loc (thr d L))} :
    (ab.view.loc (thr d L) ↦{fullShare} fa : sProp (MM F)) ⊢ iprop(⌜P (ab.view.read (Elt F) fa)⌝ -∗
      ∃ fa', ⌜P (ab.view.read (Elt F) fa')⌝ ∗ (ab.view.loc (thr d L) ↦{fullShare} fa')) := by
  iintro Ha %h
  iexists fa
  isplitr [Ha]
  · ipureintro
    exact h
  · iexact Ha

theorem zero_trip (d : Dev nD) (L : grid0.Coords) (ab : Memref sig .scVector .vmem S512x128 .f32) (hab : ab.IsWhole) (k : Fin k0_t1_loop.trips) (u : Unit) :
    iprop(∃ fa, ⌜ZeroBelow k.val (ab.view.read (Elt F) fa)⌝ ∗ (ab.view.loc (thr d L) ↦{fullShare} fa) : sProp (MM F))
      ⊢ wp frame (wpE (defs₀ (F := F)) 𝒱₀ (thr d L) none) Set.univ (t1B L ab hab k u)
          fun _ => iprop(∃ fa, ⌜ZeroBelow (k.val + 1) (ab.view.read (Elt F) fa)⌝ ∗ (ab.view.loc (thr d L) ↦{fullShare} fa)) := by
  unfold t1B k0_t1_body
  simp only [k0_part1_eq_skeleton]
  unfold k0_part1_skel
  iintro ⟨%fa, %hz, Ha⟩
  sl_exec
  sl_step
  iapply (zero_out d L ab (ZeroBelow (k.val + 1))) $$ Ha
  ipureintro
  have s0 : ∀ (a : Fin 512) (b : Fin 128), a.val < k.val ∨ (a.val = k.val ∧ b.val < 0) → ab.view.read (Elt F) (ab.view.writes (Elt F) fa []) (ValueIdx.ix2 a b) = Scalar.ofBits .f32 0x00000000#32 :=
    fun a b h => hz a b (by omega)
  have s1 := zero_step ab.view fa [] _ k.val 0 (k0_off1 k) s0 (k0_off1_eq k) (k0_off1_inb k) k0_pay3 (fun _ => rfl)
  have s2 := zero_step ab.view fa _ _ k.val 16 (k0_off2 k) s1 (k0_off2_eq k) (k0_off2_inb k) k0_pay4 (fun _ => rfl)
  have s3 := zero_step ab.view fa _ _ k.val 32 (k0_off3 k) s2 (k0_off3_eq k) (k0_off3_inb k) k0_pay5 (fun _ => rfl)
  have s4 := zero_step ab.view fa _ _ k.val 48 (k0_off4 k) s3 (k0_off4_eq k) (k0_off4_inb k) k0_pay6 (fun _ => rfl)
  have s5 := zero_step ab.view fa _ _ k.val 64 (k0_off5 k) s4 (k0_off5_eq k) (k0_off5_inb k) k0_pay7 (fun _ => rfl)
  have s6 := zero_step ab.view fa _ _ k.val 80 (k0_off6 k) s5 (k0_off6_eq k) (k0_off6_inb k) k0_pay8 (fun _ => rfl)
  have s7 := zero_step ab.view fa _ _ k.val 96 (k0_off7 k) s6 (k0_off7_eq k) (k0_off7_inb k) k0_pay9 (fun _ => rfl)
  have s8 := zero_step ab.view fa _ _ k.val 112 (k0_off8 k) s7 (k0_off8_eq k) (k0_off8_inb k) k0_pay51 (fun _ => rfl)
  have s9 : ∀ (a : Fin 512) (b : Fin 128), a.val < k.val + 1 → _ := fun a b h => s8 a b (by omega)
  exact s9

theorem zero_loop (d : Dev nD) (L : grid0.Coords) (X : S100000x128.Idx → F .f32) (B : S100000.Idx → BitVec 32) (r0 : ℕ)
    (ab : Memref sig .scVector .vmem S512x128 .f32) (hab : ab.IsWhole) :
    iprop(∃ fa, (ab.view.loc (thr d L) ↦{fullShare} fa) : sProp (MM F))
      ⊢ wp frame (wpE (defs₀ (F := F)) 𝒱₀ (thr d L) none) Set.univ (Scf.Loop.for k0_t1_loop k0_t1_ok ⟨⟩ (t1B L ab hab))
          fun _ => accP d L X B r0 ab 0 := by
  iintro ⟨%fa, Ha⟩
  iapply (Scf.wp_for frame (wpE (defs₀ (F := F)) 𝒱₀ (thr d L) none) Set.univ _ _ _ k0_t1_ok ⟨⟩ (t1B L ab hab)
    (fun k _ => iprop(∃ fa, ⌜ZeroBelow k (ab.view.read (Elt F) fa)⌝ ∗ (ab.view.loc (thr d L) ↦{fullShare} fa))) (fun k u => zero_trip d L ab hab k u))
  isplitl [Ha]
  · iexists fa; isplitr
    · ipureintro; intro a b h; omega
    · iexact Ha
  · iintro %u ⟨%fa, %hz, Ha⟩
    iexists fa; isplitr
    · ipureintro
      funext y
      have h512 : Scf.trips k0_t1_loop.lb k0_t1_loop.ub k0_t1_loop.st = 512 := by decide +kernel
      rw [h512] at hz
      have := hz (y 0) (y 1) (y 0).isLt
      rw [ValueIdx.eq_ix2 y]
      exact this
    · iexact Ha

end Cert.Proof.Seg

end
-- ==== Proof.Copies.lean ====
/-
  The tile's copies, each as one step: an issue turns the destination at some contents, the source's share and the
  semaphore at zero into a flight; a wait turns the flight into what it delivers. What a flight delivers is told as the
  row buffer holding given rows (`rowsP`), the id buffer holding given ids (`idsP`), and the source's share.
-/
module

public import proofs.«01_k».proof.Proof.Acc

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## Flights -/

/-- A flight carries along what is held beside it. -/
theorem flight_frame {c : Thread nD τ} {sm : SemLoc sig} {ι : HIx 1} {N : ℕ} {P R' : sProp (MM F)} :
    iprop(Transfers.Flight (countersEmb (U := UU) : UEmb Counters (MM F)) c sm ι N P ∗ R')
      ⊢ Transfers.Flight (countersEmb (U := UU) : UEmb Counters (MM F)) c sm ι N iprop(P ∗ R') := by
  unfold Transfers.Flight
  iintro ⟨⟨⟨%R, HR, %hcap, %hpeek⟩, Hcred⟩, HR'⟩
  isplitl [HR HR']
  · iexists iprop(R ∗ R')
    isplitl [HR HR']
    · isplitl [HR] <;> iassumption
    isplit
    · ipureintro
      intro K
      refine BIBase.Entails.trans ?_ (hcap K)
      iintro ⟨⟨HR, HR'⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR'⟩, HK⟩
      isplitl [HR]; · iexact HR
      iintro HR
      iapply HK
      isplitl [HR] <;> iassumption
  · iexact Hcred

/-- The tile's flight on a DMA semaphore. -/
abbrev fl (d : Dev nD) (L : grid0.Coords) (sem : DmaSem sig) (N : ℕ) (P : sProp (MM F)) : sProp (MM F) :=
  Transfers.Flight (countersEmb (U := UU) : UEmb Counters (MM F)) (thr d L) (.dma sem) (default : HIx 1) N P

/-- A copy's issue: from the source at a share, the destination at some contents and the semaphore at zero, to the flight of whatever the
    rewritten destination gives, beside the source's share. -/
theorem issue (d : Dev nD) (L : grid0.Coords) {sp sp' : Space} {s : Shape} {e : EltTy} (src : Memref sig .scVector sp s e) (dst : Memref sig .scVector sp' s e)
    (sem : DmaSem sig) (hsrc : src.view.WordExact) (hdst : dst.view.WordExact) (hsem : DmaTarget.Typed (nD := nD) (τ := τ) (p := .scVector (cV L) (jV L)) sp (.dma sem) (.here dst))
    (q : PosShare TreeShare) (fs : Buf (Elt F) (src.view.loc (thr d L))) (Sd : Finset (Idx (dst.view.loc (thr d L)))) (hSd : dst.view.set ⊆ Sd) (P : sProp (MM F))
    (hP : ∀ fd : Buf (Elt F) (dst.view.loc (thr d L)),
      (dst.view.loc (thr d L) ↦[Sd]{fullShare} (dst.view.write (Elt F) fd (src.view.read (Elt F) fs) Finset.univ) : sProp (MM F)) ⊢ P)
    (N : ℕ) (hN : dst.view.amount (.dma sem) = N) (hN0 : 0 < N) :
    iprop((src.view.loc (thr d L) ↦{q} fs) ∗ (∃ fd, dst.view.loc (thr d L) ↦[Sd]{fullShare} fd) ∗ semVal (thr d L, .dma sem) 0 : sProp (MM F))
      ⊢ wp frame (wpE (defs₀ (F := F)) 𝒱₀ (thr d L) none) Set.univ
          (Prog.lift (.enqueueDma src (.here dst) (.dma sem) hsrc hdst hsem))
          fun _ => fl d L sem N iprop(P ∗ (src.view.loc (thr d L) ↦{q} fs)) := by
  iintro ⟨Hs, ⟨%fd, Hd⟩, Hv⟩
  ihave Hs := (pointsTo_split_subset (Finset.subset_univ src.view.set)).1 $$ Hs
  icases Hs with ⟨Hs, Hrest⟩
  iapply (Transfers.wp_dmaLocal (countersEmb (U := UU) : UEmb Counters (MM F)) 𝒱₀ (thr d L) none (default : HIx 1) N hN hN0 hSd) $$ [Hs Hd Hv]
  · isplitl [Hs]; · iexact Hs
    isplitl [Hd] <;> iassumption
  iintro HF
  sl_step
  have h : iprop(((dst.view.loc (thr d L) ↦[Sd]{fullShare} (dst.view.write (Elt F) fd (src.view.read (Elt F) fs) Finset.univ))
        ∗ (src.view.loc (thr d L) ↦[src.view.set]{q} fs)) ∗ (src.view.loc (thr d L) ↦[Finset.univ \ src.view.set]{q} fs) : sProp (MM F))
      ⊢ iprop(P ∗ (src.view.loc (thr d L) ↦{q} fs)) := by
    iintro ⟨⟨Hd, Hs⟩, Hrest⟩
    isplitl [Hd]
    · iapply (hP fd) $$ Hd
    iapply (pointsTo_split_subset (Finset.subset_univ src.view.set)).2
    isplitl [Hs] <;> iassumption
  iapply (BIBase.Entails.trans flight_frame (Transfers.Flight_mono (countersEmb (U := UU) : UEmb Counters (MM F)) (thr d L) h))
  isplitl [HF]
  · iexact HF
  · iexact Hrest

/-- A copy's wait. -/
theorem await (d : Dev nD) (L : grid0.Coords) {sp sp' : Space} {s s' : Shape} {e e' : EltTy} (srcw : Memref sig .scVector sp s' e') (dstw : Memref sig .scVector sp' s e)
    (sem : DmaSem sig) (hsrc : srcw.view.WordExact) (hdst : dstw.view.WordExact) (P : sProp (MM F)) (N : ℕ) (hN : dstw.view.dmaCredit = N)
    (O : CellTallies nD τ sig (HIx 1)) (W : Waits sig (HIx 1)) :
    iprop(Transfers.MayWaits (thr d L) (default : HIx 1) O ∗ fl d L sem N P ∗ owes (thr d L) O W : sProp (MM F))
      ⊢ wp frame (wpE (defs₀ (F := F)) 𝒱₀ (thr d L) none) Set.univ (Prog.lift (.waitDma2 sem srcw dstw hsrc hdst))
          fun _ => iprop(P ∗ semVal (thr d L, .dma sem) 0 ∗ owes (thr d L) O (insert (SemLoc.dma sem, (default : HIx 1)) W)) := by
  iintro ⟨Hmw, HF, HO⟩
  ihave Hmw := (Transfers.MayWaits.elim (.dma sem)) $$ Hmw
  iapply (Transfers.wp_waitLocalO (countersEmb (U := UU) : UEmb Counters (MM F)) 𝒱₀ (thr d L) none (default : HIx 1) hN) $$ [HF HO Hmw]
  · isplitl [HF]; · iexact HF
    isplitl [HO] <;> iassumption
  iintro H
  sl_step
  iexact H

/-! ## What the copied slices hold -/

/-- The rows slice of `n` rows from `base` on, read off the whole features. -/
theorem rows_src (X : S100000x128.Idx → F .f32) (base n : ℕ) (off : Fin 2 → ℕ) (hoff : off = ![base, 0])
    (h : ∀ a, off a + (⟨2, ![n, 128]⟩ : Shape).size a ≤ S100000x128.size a) (a : Fin n) (b : Fin 128) :
    (xV.slice (Rect.unit (s := S100000x128) off (⟨2, ![n, 128]⟩ : Shape).size h) (fun _ => rfl)).view.read (Elt F) X (ValueIdx.ix2 a b) = rowOf X (base + a.val) b := by
  subst hoff
  have h0 : base + n ≤ 100000 := h 0
  unfold rowOf
  rw [dif_pos (by have := a.isLt; omega)]
  exact congrArg X (Rect.emb_eq_of_coords _ _ _ (fun c => by fin_cases c <;> simp [ValueIdx.ix2]))

/-- The ids slice of `n` rows from `base` on, read off the whole id vector. -/
theorem ids_src (B : S100000.Idx → BitVec 32) (base n : ℕ) (off : Fin 1 → ℕ) (hoff : off = ![base])
    (h : ∀ a, off a + (⟨1, ![n]⟩ : Shape).size a ≤ S100000.size a) (a : Fin n) :
    ((bV.slice (Rect.unit (s := S100000) off (⟨1, ![n]⟩ : Shape).size h) (fun _ => rfl)).view.read (Elt F) B (ValueIdx.ix1 a)).toNat = segOf B (base + a.val) := by
  subst hoff
  have h0 : base + n ≤ 100000 := h 0
  unfold segOf
  rw [dif_pos (by have := a.isLt; omega)]
  exact congrArg (fun i => (B i).toNat) (Rect.emb_eq_of_coords _ _ _ (fun c => by fin_cases c; simp [ValueIdx.ix1]))

/-- The first `n` rows of a row buffer rewritten with the rows slice from `base` on. -/
theorem rows_part (X : S100000x128.Idx → F .f32) (base n : ℕ) (off : Fin 2 → ℕ) (hoff : off = ![base, 0])
    (h : ∀ a, off a + (⟨2, ![n, 128]⟩ : Shape).size a ≤ S100000x128.size a)
    (rb : Memref sig .scVector .vmem S128x128 .f32) (hd : ∀ a, (![0, 0] : Fin 2 → ℕ) a + (⟨2, ![n, 128]⟩ : Shape).size a ≤ S128x128.size a) (fd : rb.view.ty.Contents (Elt F)) :
    RowsAt X base n (rb.view.read (Elt F) ((rb.slice (Rect.unit (s := S128x128) ![0, 0] (⟨2, ![n, 128]⟩ : Shape).size hd) (fun _ => rfl)).view.write (Elt F) fd
      ((xV.slice (Rect.unit (s := S100000x128) off (⟨2, ![n, 128]⟩ : Shape).size h) (fun _ => rfl)).view.read (Elt F) X) Finset.univ)) := by
  intro k hk j
  rw [← rows_src X base n off hoff h ⟨k.val, hk⟩ j]
  have e := congrFun (View.read_write_univ (v := (rb.slice (Rect.unit (s := S128x128) ![0, 0] (⟨2, ![n, 128]⟩ : Shape).size hd) (fun _ => rfl)).view) (Val := Elt F) fd
    ((xV.slice (Rect.unit (s := S100000x128) off (⟨2, ![n, 128]⟩ : Shape).size h) (fun _ => rfl)).view.read (Elt F) X)) (ValueIdx.ix2 (⟨k.val, hk⟩ : Fin n) j)
  rw [← e]
  have e2 : (Rect.unit (s := S128x128) ![0, 0] (⟨2, ![n, 128]⟩ : Shape).size hd).emb (ValueIdx.ix2 (⟨k.val, hk⟩ : Fin n) j) = rI k j :=
    Rect.emb_eq_of_coords _ _ _ (fun c => by fin_cases c <;> simp [ValueIdx.ix2])
  rw [← e2]
  rfl

/-- A whole row buffer rewritten with the rows slice from `base` on. -/
theorem rows_all (X : S100000x128.Idx → F .f32) (base : ℕ) (off : Fin 2 → ℕ) (hoff : off = ![base, 0])
    (h : ∀ a, off a + S128x128.size a ≤ S100000x128.size a) (rb : Memref sig .scVector .vmem S128x128 .f32) (fd : rb.view.ty.Contents (Elt F)) :
    RowsAt X base 128 (rb.view.read (Elt F) (rb.view.write (Elt F) fd
      ((xV.slice (Rect.unit (s := S100000x128) off S128x128.size h) (fun _ => rfl)).view.read (Elt F) X) Finset.univ)) := by
  intro k hk j
  rw [View.read_write_univ]
  exact rows_src X base 128 off hoff h k j

/-- The first `n` words of an id buffer rewritten with the ids slice from `base` on. -/
theorem ids_part (B : S100000.Idx → BitVec 32) (base n : ℕ) (off : Fin 1 → ℕ) (hoff : off = ![base])
    (h : ∀ a, off a + (⟨1, ![n]⟩ : Shape).size a ≤ S100000.size a)
    (ib : Memref sig .scVector .vmem S144 .i32) (hd : ∀ a, (![0] : Fin 1 → ℕ) a + (⟨1, ![n]⟩ : Shape).size a ≤ S144.size a) (fd : ib.view.ty.Contents (Elt F)) :
    IdsAt B base n (ib.view.read (Elt F) ((ib.slice (Rect.unit (s := S144) ![0] (⟨1, ![n]⟩ : Shape).size hd) (fun _ => rfl)).view.write (Elt F) fd
      ((bV.slice (Rect.unit (s := S100000) off (⟨1, ![n]⟩ : Shape).size h) (fun _ => rfl)).view.read (Elt F) B) Finset.univ)) := by
  intro k h144 hk
  rw [← ids_src (F := F) B base n off hoff h ⟨k, hk⟩]
  have e := congrFun (View.read_write_univ (v := (ib.slice (Rect.unit (s := S144) ![0] (⟨1, ![n]⟩ : Shape).size hd) (fun _ => rfl)).view) (Val := Elt F) fd
    ((bV.slice (Rect.unit (s := S100000) off (⟨1, ![n]⟩ : Shape).size h) (fun _ => rfl)).view.read (Elt F) B)) (ValueIdx.ix1 (⟨k, hk⟩ : Fin n))
  rw [← e]
  have e2 : (Rect.unit (s := S144) ![0] (⟨1, ![n]⟩ : Shape).size hd).emb (ValueIdx.ix1 (⟨k, hk⟩ : Fin n)) = ValueIdx.ix1 ⟨k, h144⟩ :=
    Rect.emb_eq_of_coords _ _ _ (fun c => by fin_cases c; simp [ValueIdx.ix1])
  rw [← e2]
  rfl

/-! ## The issues -/

section Issues

variable (d : Dev nD) (L : grid0.Coords) (X : S100000x128.Idx → F .f32) (B : S100000.Idx → BitVec 32) (q : PosShare TreeShare)

/-- The features and the ids at a share. -/
abbrev xP : sProp (MM F) := iprop(xV.view.loc (thr d L) ↦{q} X)
abbrev bP : sProp (MM F) := iprop(bV.view.loc (thr d L) ↦{q} B)
/-- A scratch array at some contents. -/
abbrev anyP {s : Shape} {e : EltTy} (rb : Memref sig .scVector .vmem s e) : sProp (MM F) := iprop(∃ f, rb.view.loc (thr d L) ↦{fullShare} f)
/-- A DMA semaphore of the tile at zero. -/
abbrev sem0 (sem : DmaSem sig) : sProp (MM F) := semVal (thr d L, .dma sem) 0

/-- Issuing the copy of 128 rows into a row buffer. -/
theorem issue_rows (base : ℕ) (off : Fin 2 → ℕ) (hoff : off = ![base, 0]) (h : ∀ a, off a + S128x128.size a ≤ S100000x128.size a)
    (rb : Memref sig .scVector .vmem S128x128 .f32) (sem : DmaSem sig) (N : ℕ) (hN : rb.view.amount (.dma sem) = N) (hN0 : 0 < N) {hsrc hdst hsem} :
    iprop(xP d L X q ∗ anyP (F := F) d L rb ∗ sem0 (F := F) d L sem)
      ⊢ wp frame (wpE (defs₀ (F := F)) 𝒱₀ (thr d L) none) Set.univ
          (Prog.lift (.enqueueDma (xV.slice (Rect.unit (s := S100000x128) off S128x128.size h) (fun _ => rfl)) (.here rb) (.dma sem) hsrc hdst hsem))
          fun _ => fl d L sem N iprop(rowsP d L X rb base 128 ∗ xP d L X q) :=
  issue d L (xV.slice (Rect.unit (s := S100000x128) off S128x128.size h) (fun _ => rfl)) rb sem hsrc hdst hsem q X Finset.univ (Finset.subset_univ _)
    (rowsP d L X rb base 128) (fun fd => by
      iintro H
      iexists _
      isplitr [H]
      · ipureintro
        exact rows_all X base off hoff h rb fd
      · iexact H) N hN hN0

/-- Issuing the copy of `n` rows into a row buffer's first `n`. -/
theorem issue_rows_part (base n : ℕ) (off : Fin 2 → ℕ) (hoff : off = ![base, 0]) (h : ∀ a, off a + (⟨2, ![n, 128]⟩ : Shape).size a ≤ S100000x128.size a)
    (rb : Memref sig .scVector .vmem S128x128 .f32) (hd : ∀ a, (![0, 0] : Fin 2 → ℕ) a + (⟨2, ![n, 128]⟩ : Shape).size a ≤ S128x128.size a) (sem : DmaSem sig) (N : ℕ)
    (hN : (rb.slice (Rect.unit (s := S128x128) ![0, 0] (⟨2, ![n, 128]⟩ : Shape).size hd) (fun _ => rfl)).view.amount (.dma sem) = N) (hN0 : 0 < N) {hsrc hdst hsem} :
    iprop(xP d L X q ∗ anyP (F := F) d L rb ∗ sem0 (F := F) d L sem)
      ⊢ wp frame (wpE (defs₀ (F := F)) 𝒱₀ (thr d L) none) Set.univ
          (Prog.lift (.enqueueDma (xV.slice (Rect.unit (s := S100000x128) off (⟨2, ![n, 128]⟩ : Shape).size h) (fun _ => rfl))
            (.here (rb.slice (Rect.unit (s := S128x128) ![0, 0] (⟨2, ![n, 128]⟩ : Shape).size hd) (fun _ => rfl))) (.dma sem) hsrc hdst hsem))
          fun _ => fl d L sem N iprop(rowsP d L X rb base n ∗ xP d L X q) :=
  issue d L (xV.slice (Rect.unit (s := S100000x128) off (⟨2, ![n, 128]⟩ : Shape).size h) (fun _ => rfl))
    (rb.slice (Rect.unit (s := S128x128) ![0, 0] (⟨2, ![n, 128]⟩ : Shape).size hd) (fun _ => rfl)) sem hsrc hdst hsem q X Finset.univ (Finset.subset_univ _)
    (rowsP d L X rb base n) (fun fd => by
      iintro H
      iexists _
      isplitr [H]
      · ipureintro
        exact rows_part X base n off hoff h rb hd fd
      · iexact H) N hN hN0

/-- Issuing the copy of `n` ids into an id buffer's first `n` words. -/
theorem issue_ids (base n : ℕ) (off : Fin 1 → ℕ) (hoff : off = ![base]) (h : ∀ a, off a + (⟨1, ![n]⟩ : Shape).size a ≤ S100000.size a)
    (ib : Memref sig .scVector .vmem S144 .i32) (hd : ∀ a, (![0] : Fin 1 → ℕ) a + (⟨1, ![n]⟩ : Shape).size a ≤ S144.size a) (sem : DmaSem sig) (N : ℕ)
    (hN : (ib.slice (Rect.unit (s := S144) ![0] (⟨1, ![n]⟩ : Shape).size hd) (fun _ => rfl)).view.amount (.dma sem) = N) (hN0 : 0 < N) {hsrc hdst hsem} :
    iprop(bP (F := F) d L B q ∗ anyP (F := F) d L ib ∗ sem0 (F := F) d L sem)
      ⊢ wp frame (wpE (defs₀ (F := F)) 𝒱₀ (thr d L) none) Set.univ
          (Prog.lift (.enqueueDma (bV.slice (Rect.unit (s := S100000) off (⟨1, ![n]⟩ : Shape).size h) (fun _ => rfl))
            (.here (ib.slice (Rect.unit (s := S144) ![0] (⟨1, ![n]⟩ : Shape).size hd) (fun _ => rfl))) (.dma sem) hsrc hdst hsem))
          fun _ => fl d L sem N iprop(idsP (F := F) d L B ib base n ∗ bP (F := F) d L B q) :=
  issue d L (bV.slice (Rect.unit (s := S100000) off (⟨1, ![n]⟩ : Shape).size h) (fun _ => rfl))
    (ib.slice (Rect.unit (s := S144) ![0] (⟨1, ![n]⟩ : Shape).size hd) (fun _ => rfl)) sem hsrc hdst hsem q B Finset.univ (Finset.subset_univ _)
    (idsP (F := F) d L B ib base n) (fun fd => by
      iintro H
      iexists _
      isplitr [H]
      · ipureintro
        exact ids_part B base n off hoff h ib hd fd
      · iexact H) N hN hN0

end Issues

/-- A program's triple, its continuation handed in. -/
theorem wp_use {d : Dev nD} {L : grid0.Coords} {α : Type} {P : sProp (MM F)} {Q' Q : α → sProp (MM F)} {p : Prog (TpuEff nD τ sig (Elt F) Λ₀ (.scVector (cV L) (jV L))) α}
    (h : P ⊢ wp frame (wpE (defs₀ (F := F)) 𝒱₀ (thr d L) none) Set.univ p Q') :
    iprop(P ∗ (∀ a, Q' a -∗ Q a)) ⊢ wp frame (wpE (defs₀ (F := F)) 𝒱₀ (thr d L) none) Set.univ p Q := by
  iintro ⟨HP, HQ⟩
  iapply (wp_wand_r frame (wpE (defs₀ (F := F)) 𝒱₀ (thr d L) none) Set.univ)
  isplitl [HP]
  · iapply h $$ HP
  · iexact HQ

end Cert.Proof.Seg

end
-- ==== Proof.Chunks.lean ====
/-
  The double-buffered loop over full chunks. Before trip `t` the copies of chunk `2t` into the first pair of buffers are
  in flight (when there is such a chunk), the second pair is free, and the accumulator holds the first `256 t` rows' sums.
-/
module

public import proofs.«01_k».proof.Proof.Copies

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile's first row. -/
abbrev row0 (L : grid0.Coords) : ℕ := 37888 * (L 0).val + 2368 * (L 1).val + 8 * (min (16 * (L 0).val + (L 1).val) 28)

/-- The loop's body at the tile's arrays. -/
abbrev t2B (L : grid0.Coords) (v9 : BitVec 32) :=
  k0_t2_body (F := F) L xV (Memref.isWhole_whole _) bV (Memref.isWhole_whole _) oV (Memref.isWhole_whole _) rV0 (Memref.isWhole_whole _) rV1 (Memref.isWhole_whole _)
    iV0 (Memref.isWhole_whole _) iV1 (Memref.isWhole_whole _) aV (Memref.isWhole_whole _)
    cc0_scratch5 cc0_scratch6 cc0_scratch7 cc0_scratch8 cc0_scoped0 cc0_scoped1 cc0_scoped2 cc0_scoped3 cc0_scoped4 v9

/-- The credit of a copy of 128 rows, and of 128 ids. -/
abbrev NR : ℕ := rV0.view.amount (.dma cc0_scratch5.sem)
abbrev NI : ℕ := (iV0.slice (Rect.unit (s := S144) ![0] S128.size inb_S144_S128_0) (fun _ => rfl)).view.amount (.dma cc0_scratch7.sem)

theorem NR_pos : 0 < NR := by decide
theorem NI_pos : 0 < NI := by decide

section Chunks

variable (d : Dev nD) (L : grid0.Coords) (X : S100000x128.Idx → F .f32) (B : S100000.Idx → BitVec 32) (hB : ∀ i, (B i).toNat < 512) (q0 q1 : PosShare TreeShare)
  (O : CellTallies nD τ sig (HIx 1)) (W : Waits sig (HIx 1))

/-- What the tile owes, its own waits recorded. -/
abbrev owing : sProp (MM F) := iprop(∃ W', ⌜∀ p ∈ W', p ∈ W ∨ p.2 = none⌝ ∗ owes (thr d L) O W')

/-- A wait, its record taken into the waits so far. -/
theorem awaitO {sp sp' : Space} {s s' : Shape} {e e' : EltTy} (srcw : Memref sig .scVector sp s' e') (dstw : Memref sig .scVector sp' s e)
    (sem : DmaSem sig) {hsrc : srcw.view.WordExact} {hdst : dstw.view.WordExact} (P : sProp (MM F)) (N : ℕ) (hN : dstw.view.dmaCredit = N) :
    iprop(Transfers.MayWaits (thr d L) (default : HIx 1) O ∗ fl d L sem N P ∗ owing d L O W : sProp (MM F))
      ⊢ wp frame (wpE (defs₀ (F := F)) 𝒱₀ (thr d L) none) Set.univ (Prog.lift (.waitDma2 sem srcw dstw hsrc hdst))
          fun _ => iprop(P ∗ sem0 (F := F) d L sem ∗ owing d L O W) := by
  iintro ⟨#Hmw, HF, %W', %hW, HO⟩
  iapply (wp_use (await d L srcw dstw sem hsrc hdst P N hN O W'))
  isplitl [HF HO]
  · isplitr; · iexact Hmw
    isplitl [HF] <;> iassumption
  · iintro %u ⟨HP, Hs, HO⟩
    isplitl [HP]; · iexact HP
    isplitl [Hs]; · iexact Hs
    iexists (insert (SemLoc.dma sem, (default : HIx 1)) W')
    isplitr [HO]
    · ipureintro
      intro p hp
      rcases Finset.mem_insert.mp hp with h | h
      · right
        rw [h]
        rfl
      · exact hW p h
    · iexact HO

/-- The first pair of buffers, free, and with its copies in flight. -/
abbrev free0 : sProp (MM F) := iprop(anyP (F := F) d L rV0 ∗ sem0 (F := F) d L cc0_scratch5.sem ∗ xP d L X q0 ∗ anyP (F := F) d L iV0 ∗ sem0 (F := F) d L cc0_scratch7.sem ∗ bP (F := F) d L B q0)
abbrev fly0 (base : ℕ) : sProp (MM F) := iprop(fl d L cc0_scratch5.sem NR iprop(rowsP d L X rV0 base 128 ∗ xP d L X q0) ∗ fl d L cc0_scratch7.sem NI iprop(idsP (F := F) d L B iV0 base 128 ∗ bP (F := F) d L B q0))
abbrev free1 : sProp (MM F) := iprop(anyP (F := F) d L rV1 ∗ sem0 (F := F) d L cc0_scratch6.sem ∗ xP d L X q1 ∗ anyP (F := F) d L iV1 ∗ sem0 (F := F) d L cc0_scratch8.sem ∗ bP (F := F) d L B q1)

/-- The first pair's state before trip `t`. -/
def slot0 (t : ℕ) : sProp (MM F) := if t < 9 then fly0 d L X B q0 (row0 L + 256 * t) else free0 d L X B q0

theorem cond1_iff : ∀ t : Fin k0_t2_loop.trips, k0_cond1 t = 1#1 ↔ t.val + 1 < 9 := by decide +kernel

/-- The loop's guarded issue: the first pair free to its state before the next trip. -/
theorem guarded (t : Fin k0_t2_loop.trips) :
    free0 d L X B q0
      ⊢ wp frame (wpE (defs₀ (F := F)) 𝒱₀ (thr d L) none) Set.univ
          (if k0_h1 : k0_cond1 t = 1#1 then do
              Prog.lift (.enqueueDma (xV.slice (Rect.unit (s := S100000x128) (k0_off32 L t) S128x128.size (k0_off32_inb L t k0_h1)) (fun _ => rfl)) (.here rV0) (.dma cc0_scratch5.sem) (View.wordExact_bits rfl) (Memref.isWhole_whole _).wordExact ⟨Or.inl rfl, trivial⟩)
              Prog.lift (.enqueueDma (bV.slice (Rect.unit (s := S100000) (k0_off33 L t) S128.size (k0_off33_inb L t k0_h1)) (fun _ => rfl))
                (.here (iV0.slice (Rect.unit (s := S144) ![0] S128.size inb_S144_S128_0) (fun _ => rfl))) (.dma cc0_scratch7.sem) (View.wordExact_bits rfl) (View.wordExact_bits rfl) ⟨Or.inl rfl, trivial⟩)
              pure ⟨⟩
            else do pure ⟨⟩ : Prog (TpuEff nD τ sig (Elt F) Λ₀ (.scVector (cV L) (jV L))) PUnit)
          fun _ => slot0 d L X B q0 (t.val + 1) := by
  by_cases h : k0_cond1 t = 1#1
  · have ht := (cond1_iff t).1 h
    rw [dif_pos h]
    unfold slot0
    rw [if_pos ht]
    simp only [wp_bind, wp_pure]
    iintro ⟨Hr, Hs, Hx, Hi, Hs', Hb⟩
    iapply (wp_use (issue_rows d L X q0 (row0 L + 256 * (t.val + 1)) (k0_off32 L t) (by rw [k0_off32_eq]; congr 1) (k0_off32_inb L t h) rV0 cc0_scratch5.sem NR rfl NR_pos))
    isplitl [Hr Hs Hx]
    · isplitl [Hx]; · iexact Hx
      isplitl [Hr] <;> iassumption
    iintro %u Hf
    iapply (wp_use (issue_ids d L B q0 (row0 L + 256 * (t.val + 1)) 128 (k0_off33 L t) (by rw [k0_off33_eq]; congr 1) (k0_off33_inb L t h) iV0 inb_S144_S128_0 cc0_scratch7.sem NI rfl NI_pos))
    isplitl [Hi Hs' Hb]
    · isplitl [Hb]; · iexact Hb
      isplitl [Hi] <;> iassumption
    iintro %u Hf'
    isplitl [Hf] <;> iassumption
  · have ht : ¬ t.val + 1 < 9 := fun hh => h ((cond1_iff t).2 hh)
    rw [dif_neg h]
    unfold slot0
    rw [if_neg ht]
    simp only [wp_pure]
    iintro H
    iexact H

set_option maxHeartbeats 2000000 in
include hB in
/-- One trip of the loop over full chunks. -/
theorem chunk_trip (v9 : BitVec 32) (t : Fin k0_t2_loop.trips) (u : Unit) :
    iprop(Transfers.MayWaits (thr d L) (default : HIx 1) O ∗ owing d L O W ∗ slot0 d L X B q0 t.val ∗ free1 d L X B q1 ∗ accP d L X B (row0 L) aV (256 * t.val))
      ⊢ wp frame (wpE (defs₀ (F := F)) 𝒱₀ (thr d L) none) Set.univ (t2B L v9 t u)
          fun _ => iprop(owing d L O W ∗ slot0 d L X B q0 (t.val + 1) ∗ free1 d L X B q1 ∗ accP d L X B (row0 L) aV (256 * (t.val + 1))) := by
  have ht : t.val < 9 := lt_of_lt_of_le t.isLt (by decide +kernel)
  unfold t2B k0_t2_body
  simp only [k0_part6_eq_skeleton]
  unfold k0_part6_skel
  simp only [wp_bind, wp_pure]
  rw [show slot0 d L X B q0 t.val = fly0 d L X B q0 (row0 L + 256 * t.val) from if_pos ht]
  iintro ⟨#Hmw, HO, ⟨Hf0, Hg0⟩, ⟨Hr1, Hs1, Hx1, Hi1, Ht1, Hb1⟩, Ha⟩
  iapply (wp_use (issue_rows d L X q1 (row0 L + 256 * t.val + 128) (k0_off11 L t) (by rw [k0_off11_eq]) (k0_off11_inb L t) rV1 cc0_scratch6.sem NR rfl NR_pos))
  isplitl [Hr1 Hs1 Hx1]
  · isplitl [Hx1]; · iexact Hx1
    isplitl [Hr1] <;> iassumption
  iintro %u Hf1
  iapply (wp_use (issue_ids d L B q1 (row0 L + 256 * t.val + 128) 128 (k0_off12 L t) (by rw [k0_off12_eq]) (k0_off12_inb L t) iV1 inb_S144_S128_0 cc0_scratch8.sem NI rfl NI_pos))
  isplitl [Hi1 Ht1 Hb1]
  · isplitl [Hb1]; · iexact Hb1
    isplitl [Hi1] <;> iassumption
  iintro %u Hg1
  iapply (wp_use (awaitO d L O W _ rV0 cc0_scratch5.sem _ NR rfl))
  isplitl [Hf0 HO]
  · isplitr; · iexact Hmw
    isplitl [Hf0] <;> iassumption
  iintro %u ⟨⟨Hr0, Hx0⟩, Hs0, HO⟩
  iapply (wp_use (awaitO d L O W _ (iV0.slice (Rect.unit (s := S144) ![0] S128.size inb_S144_S128_0) (fun _ => rfl)) cc0_scratch7.sem _ NI rfl))
  isplitl [Hg0 HO]
  · isplitr; · iexact Hmw
    isplitl [Hg0] <;> iassumption
  iintro %u ⟨⟨Hi0, Hb0⟩, Ht0, HO⟩
  iapply (wp_use (rows_loop d L X B hB (row0 L) rV0 (Memref.isWhole_whole _) iV0 (Memref.isWhole_whole _) aV (Memref.isWhole_whole _) t (256 * t.val) 128 le_rfl
    k0_t3_loop k0_t3_ok (by decide +kernel) _ (fun k u h => rfl)))
  isplitl [Hr0 Hi0 Ha]
  · rw [show row0 L + 256 * t.val = row0 L + (256 * t.val) from rfl]
    isplitl [Hr0]; · iexact Hr0
    isplitl [Hi0] <;> iassumption
  iintro %u ⟨⟨%fr0, -, Hr0⟩, ⟨%fi0, -, Hi0⟩, Ha⟩
  iapply (wp_use (guarded d L X B q0 t))
  isplitl [Hr0 Hs0 Hx0 Hi0 Ht0 Hb0]
  · isplitl [Hr0]; · iexists _; iexact Hr0
    isplitl [Hs0]; · iexact Hs0
    isplitl [Hx0]; · iexact Hx0
    isplitl [Hi0]; · iexists _; iexact Hi0
    isplitl [Ht0] <;> iassumption
  iintro %u Hslot
  iapply (wp_use (awaitO d L O W _ rV1 cc0_scratch6.sem _ NR rfl))
  isplitl [Hf1 HO]
  · isplitr; · iexact Hmw
    isplitl [Hf1] <;> iassumption
  iintro %u ⟨⟨Hr1, Hx1⟩, Hs1, HO⟩
  iapply (wp_use (awaitO d L O W _ (iV1.slice (Rect.unit (s := S144) ![0] S128.size inb_S144_S128_0) (fun _ => rfl)) cc0_scratch8.sem _ NI rfl))
  isplitl [Hg1 HO]
  · isplitr; · iexact Hmw
    isplitl [Hg1] <;> iassumption
  iintro %u ⟨⟨Hi1, Hb1⟩, Ht1, HO⟩
  iapply (wp_use (rows_loop d L X B hB (row0 L) rV1 (Memref.isWhole_whole _) iV1 (Memref.isWhole_whole _) aV (Memref.isWhole_whole _) t (256 * t.val + 128) 128 le_rfl
    k0_t4_loop k0_t4_ok (by decide +kernel) _ (fun k u h => rfl)))
  isplitl [Hr1 Hi1 Ha]
  · rw [show row0 L + (256 * t.val + 128) = row0 L + 256 * t.val + 128 from rfl]
    isplitl [Hr1]; · iexact Hr1
    isplitl [Hi1] <;> iassumption
  iintro %u ⟨⟨%fr1, -, Hr1⟩, ⟨%fi1, -, Hi1⟩, Ha⟩
  isplitl [HO]; · iexact HO
  isplitl [Hslot]; · iexact Hslot
  isplitr [Ha]
  · isplitl [Hr1]; · iexists _; iexact Hr1
    isplitl [Hs1]; · iexact Hs1
    isplitl [Hx1]; · iexact Hx1
    isplitl [Hi1]; · iexists _; iexact Hi1
    isplitl [Ht1] <;> iassumption
  · rw [show 256 * (t.val + 1) = 256 * t.val + 128 + 128 from by omega]
    iexact Ha

include hB in
/-- The loop over full chunks. -/
theorem chunk_loop (v9 : BitVec 32) :
    iprop(Transfers.MayWaits (thr d L) (default : HIx 1) O ∗ owing d L O W ∗ fly0 d L X B q0 (row0 L) ∗ free1 d L X B q1 ∗ accP d L X B (row0 L) aV 0)
      ⊢ wp frame (wpE (defs₀ (F := F)) 𝒱₀ (thr d L) none) Set.univ (Scf.Loop.for k0_t2_loop k0_t2_ok ⟨⟩ (t2B L v9))
          fun _ => iprop(owing d L O W ∗ free0 d L X B q0 ∗ free1 d L X B q1 ∗ accP d L X B (row0 L) aV 2304) := by
  iintro ⟨#Hmw, H⟩
  iapply (Scf.wp_for frame (wpE (defs₀ (F := F)) 𝒱₀ (thr d L) none) Set.univ _ _ _ k0_t2_ok ⟨⟩ (t2B L v9)
    (fun t _ => iprop(Transfers.MayWaits (thr d L) (default : HIx 1) O ∗ owing d L O W ∗ slot0 d L X B q0 t ∗ free1 d L X B q1 ∗ accP d L X B (row0 L) aV (256 * t))) ?hb)
  case hb =>
    intro t u
    iintro ⟨#Hmw, H⟩
    iapply (wp_use (chunk_trip d L X B hB q0 q1 O W v9 t u))
    isplitl [H]
    · isplitr; · iexact Hmw
      iexact H
    · iintro %u H
      isplitr; · iexact Hmw
      iexact H
  isplitl [H]
  · isplitr; · iexact Hmw
    rw [show slot0 d L X B q0 0 = fly0 d L X B q0 (row0 L) from if_pos (by omega), Nat.mul_zero]
    iexact H
  · iintro %u ⟨-, H⟩
    rw [show Scf.trips k0_t2_loop.lb k0_t2_loop.ub k0_t2_loop.st = 9 from by decide +kernel, show slot0 d L X B q0 9 = free0 d L X B q0 from if_neg (by omega)]
    iexact H

end Chunks

end Cert.Proof.Seg

end
-- ==== Proof.Tile.lean ====
/-
  One tile's task of the segment-sum call: its accumulator is zeroed, the full chunks are added, the 64 or 72 rows left
  over are fetched and added, and the accumulator is copied to the tile's slab of the partial sums.
-/
module

public import proofs.«01_k».proof.Proof.Chunks
public import Idealize.ShloMosaic.Lib.ShareLeaves

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The partial sums as a function -/

/-- Tile `w`'s first row, and how many rows it adds. -/
def tileRow0 (w : ℕ) : ℕ := 2368 * w + 8 * min w 28
def tileN (w : ℕ) : ℕ := 2304 + (if w < 28 then 72 else 64)

/-- The partial sums: slab `w` is tile `w`'s accumulator. -/
def partsV (X : S100000x128.Idx → F .f32) (B : S100000.Idx → BitVec 32) : S32x512x128.Idx → F .f32 :=
  fun y => accV X B (tileRow0 (y 0).val) (tileN (y 0).val) (ValueIdx.ix2 (⟨(y 1).val, (y 1).isLt⟩ : Fin 512) (⟨(y 2).val, (y 2).isLt⟩ : Fin 128))

/-- The tile's number. -/
abbrev widL (L : grid0.Coords) : ℕ := 16 * (L 0).val + (L 1).val
theorem row0_eq (L : grid0.Coords) : row0 L = tileRow0 (widL L) := by unfold row0 tileRow0 widL; omega

/-- How many rows are left over past the full chunks. -/
abbrev tailN (L : grid0.Coords) : ℕ := if widL L < 28 then 72 else 64

theorem cond2_iff : ∀ i : grid0.Coords, k0_cond2 i = 1#1 ↔ ¬ widL i < 28 := by decide +kernel
theorem cond3_iff : ∀ i : grid0.Coords, k0_cond3 i = 1#1 ↔ widL i < 28 := by decide +kernel
theorem t5_trips : ∀ i : grid0.Coords, (k0_t5_loop i).trips = tailN i := by decide +kernel
theorem t6_trips : ∀ i : grid0.Coords, (k0_t6_loop i).trips = 0 := by decide +kernel

/-! ## The slabs -/

theorem odiv : 32 ∣ S32x512x128.size 0 := ⟨1, rfl⟩
abbrev slab (w : Fin 32) : Rect S32x512x128 := Rect.part (s := S32x512x128) (a₀ := 0) odiv w
abbrev slabSet (w : Fin 32) : Finset S32x512x128.Idx := (oV.view.slice (slab w)).set

theorem widL_lt (L : grid0.Coords) : widL L < 32 := by
  have h0 : (L 0).val < 2 := (L 0).isLt
  have h1 : (L 1).val < 16 := (L 1).isLt
  unfold widL
  omega
abbrev wL (L : grid0.Coords) : Fin 32 := ⟨widL L, widL_lt L⟩

/-- The tile's slab as the kernel addresses it, and its squeeze. -/
abbrev slabK (L : grid0.Coords) : Rect S32x512x128 := Rect.unit (s := S32x512x128) (k0_off89 L) S1x512x128.size (k0_off89_inb L)
abbrev oK (L : grid0.Coords) : Memref sig .scVector .hbm S512x128 .f32 := (oV.slice (slabK L) (fun _ => rfl)).squeeze S512x128 squeezes_S1x512x128_S512x128

theorem slabK_eq (L : grid0.Coords) : slabK L = slab (wL L) := by
  unfold slabK slab Rect.part Rect.block
  congr 1 <;> funext a
  · rw [k0_off89_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_oK (L : grid0.Coords) : (oK L).view.set = slabSet (wL L) := by
  show ((oV.view.slice (slabK L)).reshape S512x128 squeezes_S1x512x128_S512x128.numel_eq).set = (oV.view.slice (slab (wL L))).set
  rw [View.set_reshape]
  exact slabK_eq L ▸ rfl

/-- Where the tile's slab puts element `(a, b)`. -/
theorem emb_oK (L : grid0.Coords) (a : Fin 512) (b : Fin 128) : (oK L).view.emb (ValueIdx.ix2 a b) = ValueIdx.ix3 (wL L) a b := by
  have e1 : Shape.reshapeEquiv squeezes_S1x512x128_S512x128.numel_eq (ValueIdx.ix2 a b : S512x128.Idx) = (ValueIdx.ix3 (0 : Fin 1) a b : S1x512x128.Idx) := by
    refine Shape.reshapeEquiv_eq_of_rowMajor _ ?_
    rw [Shape.rowMajor_val_three, Shape.rowMajor_val_two]
    simp [ValueIdx.ix2, ValueIdx.ix3]
  show (slabK L).emb (Shape.reshapeEquiv _ (ValueIdx.ix2 a b : S512x128.Idx)) = _
  rw [e1]
  exact Rect.emb_eq_of_coords _ _ _ (fun c => by
    rw [show (slabK L).off = ![widL L, 0, 0] from k0_off89_eq L]
    fin_cases c <;> simp [ValueIdx.ix3])

section Tile

variable (d : Dev nD) (L : grid0.Coords) (X : S100000x128.Idx → F .f32) (B : S100000.Idx → BitVec 32) (hB : ∀ i, (B i).toNat < 512) (q0 q1 : PosShare TreeShare)
  (O : CellTallies nD τ sig (HIx 1)) (W : Waits sig (HIx 1))

/-- The tile's slab rewritten with its accumulator is the slab of the partial sums. -/
theorem slab_out (fa : Buf (Elt F) (aV.view.loc (thr d L))) (ha : aV.view.read (Elt F) fa = accV X B (row0 L) (2304 + tailN L))
    (fd : Buf (Elt F) ((oK L).view.loc (thr d L))) :
    ((oK L).view.loc (thr d L) ↦[(oK L).view.set]{fullShare} ((oK L).view.write (Elt F) fd (aV.view.read (Elt F) fa) Finset.univ) : sProp (MM F))
      ⊢ oV.view.loc (thr d L) ↦[slabSet (wL L)]{fullShare} partsV X B := by
  rw [ha, ← set_oK L]
  refine Entails.of_eq (pointsTo_congr fun i hi => ?_)
  obtain ⟨y, -, rfl⟩ := Finset.mem_map.mp hi
  obtain ⟨a, b, rfl⟩ : ∃ (a : Fin 512) (b : Fin 128), y = ValueIdx.ix2 a b := ⟨_, _, ValueIdx.eq_ix2 y⟩
  have e := View.write_emb_of_mem (v := (oK L).view) (Val := Elt F) fd (accV X B (row0 L) (2304 + tailN L)) (M := Finset.univ) (x := ValueIdx.ix2 a b) (Finset.mem_univ _)
  refine e.trans ?_
  rw [emb_oK]
  show accV X B (row0 L) (2304 + tailN L) (ValueIdx.ix2 a b) = accV X B (tileRow0 (widL L)) (tileN (widL L)) (ValueIdx.ix2 a b)
  rw [row0_eq]
  rfl

/-! ## The rows left over -/

/-- The first pair of buffers holding the `n` rows and ids left over, and the pair free; the sources' shares beside them. -/
abbrev filled (n : ℕ) : sProp (MM F) := iprop((rowsP d L X rV0 (row0 L + 2304) n ∗ xP d L X q0) ∗ (idsP (F := F) d L B iV0 (row0 L + 2304) n ∗ bP (F := F) d L B q0))
abbrev unfilled : sProp (MM F) := iprop((anyP (F := F) d L rV0 ∗ xP d L X q0) ∗ (anyP (F := F) d L iV0 ∗ bP (F := F) d L B q0))
/-- The pair's state between the two guarded fetches. -/
def mid : sProp (MM F) := if widL L < 28 then unfilled d L X B q0 else filled d L X B q0 64

/-- The fetch of `n` rows and their ids, each issued and waited for. -/
theorem fetch (n : ℕ) (off : Fin 2 → ℕ) (hoff : off = ![row0 L + 2304, 0]) (h : ∀ a, off a + (⟨2, ![n, 128]⟩ : Shape).size a ≤ S100000x128.size a)
    (offi : Fin 1 → ℕ) (hoffi : offi = ![row0 L + 2304]) (hi : ∀ a, offi a + (⟨1, ![n]⟩ : Shape).size a ≤ S100000.size a)
    (hd : ∀ a, (![0, 0] : Fin 2 → ℕ) a + (⟨2, ![n, 128]⟩ : Shape).size a ≤ S128x128.size a) (hdi : ∀ a, (![0] : Fin 1 → ℕ) a + (⟨1, ![n]⟩ : Shape).size a ≤ S144.size a)
    (sr si : DmaSem sig) (N Ni : ℕ)
    (hN : (rV0.slice (Rect.unit (s := S128x128) ![0, 0] (⟨2, ![n, 128]⟩ : Shape).size hd) (fun _ => rfl)).view.amount (.dma sr) = N) (hN0 : 0 < N)
    (hN' : (rV0.slice (Rect.unit (s := S128x128) ![0, 0] (⟨2, ![n, 128]⟩ : Shape).size hd) (fun _ => rfl)).view.dmaCredit = N)
    (hNi : (iV0.slice (Rect.unit (s := S144) ![0] (⟨1, ![n]⟩ : Shape).size hdi) (fun _ => rfl)).view.amount (.dma si) = Ni) (hNi0 : 0 < Ni)
    (hNi' : (iV0.slice (Rect.unit (s := S144) ![0] (⟨1, ![n]⟩ : Shape).size hdi) (fun _ => rfl)).view.dmaCredit = Ni)
    {h1 h2 h3 h4 h5 h6 h7 h8 h9 h10} {α : Type} (k : Prog (TpuEff nD τ sig (Elt F) Λ₀ (.scVector (cV L) (jV L))) α) (Q : α → sProp (MM F)) :
    iprop((Transfers.MayWaits (thr d L) (default : HIx 1) O ∗ owing d L O W ∗ unfilled d L X B q0 ∗ sem0 (F := F) d L sr ∗ sem0 (F := F) d L si)
        ∗ ((owing d L O W ∗ filled d L X B q0 n ∗ sem0 (F := F) d L sr ∗ sem0 (F := F) d L si) -∗ wp frame (wpE (defs₀ (F := F)) 𝒱₀ (thr d L) none) Set.univ k Q))
      ⊢ wp frame (wpE (defs₀ (F := F)) 𝒱₀ (thr d L) none) Set.univ
          ((do
            Prog.lift (.enqueueDma (xV.slice (Rect.unit (s := S100000x128) off (⟨2, ![n, 128]⟩ : Shape).size h) (fun _ => rfl))
              (.here (rV0.slice (Rect.unit (s := S128x128) ![0, 0] (⟨2, ![n, 128]⟩ : Shape).size hd) (fun _ => rfl))) (.dma sr) h1 h2 h3)
            Prog.lift (.waitDma2 sr (xV.slice (Rect.unit (s := S100000x128) off (⟨2, ![n, 128]⟩ : Shape).size h) (fun _ => rfl))
              (rV0.slice (Rect.unit (s := S128x128) ![0, 0] (⟨2, ![n, 128]⟩ : Shape).size hd) (fun _ => rfl)) h4 h5)
            Prog.lift (.enqueueDma (bV.slice (Rect.unit (s := S100000) offi (⟨1, ![n]⟩ : Shape).size hi) (fun _ => rfl))
              (.here (iV0.slice (Rect.unit (s := S144) ![0] (⟨1, ![n]⟩ : Shape).size hdi) (fun _ => rfl))) (.dma si) h6 h7 h8)
            Prog.lift (.waitDma2 si (bV.slice (Rect.unit (s := S100000) offi (⟨1, ![n]⟩ : Shape).size hi) (fun _ => rfl))
              (iV0.slice (Rect.unit (s := S144) ![0] (⟨1, ![n]⟩ : Shape).size hdi) (fun _ => rfl)) h9 h10)
            k) : Prog (TpuEff nD τ sig (Elt F) Λ₀ (.scVector (cV L) (jV L))) α) Q := by
  simp only [wp_bind]
  iintro ⟨⟨#Hmw, HO, ⟨⟨Hr, Hx⟩, ⟨Hi, Hb⟩⟩, Hs, Hs'⟩, Hk⟩
  iapply (wp_use (issue_rows_part d L X q0 (row0 L + 2304) n off hoff h rV0 hd sr N hN hN0))
  isplitl [Hr Hs Hx]
  · isplitl [Hx]; · iexact Hx
    isplitl [Hr] <;> iassumption
  iintro %u Hf
  iapply (wp_use (awaitO d L O W _ (rV0.slice (Rect.unit (s := S128x128) ![0, 0] (⟨2, ![n, 128]⟩ : Shape).size hd) (fun _ => rfl)) sr _ N hN'))
  isplitl [Hf HO]
  · isplitr; · iexact Hmw
    isplitl [Hf] <;> iassumption
  iintro %u ⟨Hr, Hs, HO⟩
  iapply (wp_use (issue_ids d L B q0 (row0 L + 2304) n offi hoffi hi iV0 hdi si Ni hNi hNi0))
  isplitl [Hi Hs' Hb]
  · isplitl [Hb]; · iexact Hb
    isplitl [Hi] <;> iassumption
  iintro %u Hf
  iapply (wp_use (awaitO d L O W _ (iV0.slice (Rect.unit (s := S144) ![0] (⟨1, ![n]⟩ : Shape).size hdi) (fun _ => rfl)) si _ Ni hNi'))
  isplitl [Hf HO]
  · isplitr; · iexact Hmw
    isplitl [Hf] <;> iassumption
  iintro %u ⟨Hi, Hs', HO⟩
  iapply Hk
  isplitl [HO]; · iexact HO
  isplitl [Hr Hi]; · isplitl [Hr] <;> iassumption
  isplitl [Hs] <;> iassumption

/-- The guarded fetch of 64 rows: a tile past the first 28 takes it. -/
theorem fetch64 {α : Type} (k : Prog (TpuEff nD τ sig (Elt F) Λ₀ (.scVector (cV L) (jV L))) α) (Q : α → sProp (MM F)) :
    iprop((Transfers.MayWaits (thr d L) (default : HIx 1) O ∗ owing d L O W ∗ unfilled d L X B q0 ∗ sem0 (F := F) d L cc0_scoped0.sem ∗ sem0 (F := F) d L cc0_scoped1.sem)
        ∗ ((owing d L O W ∗ mid d L X B q0 ∗ sem0 (F := F) d L cc0_scoped0.sem ∗ sem0 (F := F) d L cc0_scoped1.sem) -∗ wp frame (wpE (defs₀ (F := F)) 𝒱₀ (thr d L) none) Set.univ k Q))
      ⊢ wp frame (wpE (defs₀ (F := F)) 𝒱₀ (thr d L) none) Set.univ
          (if k0_h2 : k0_cond2 L = 1#1 then do
            Prog.lift (.enqueueDma (xV.slice (Rect.unit (s := S100000x128) (k0_off51 L) S64x128.size (k0_off51_inb L k0_h2)) (fun _ => rfl))
              (.here (rV0.slice (Rect.unit (s := S128x128) ![0, 0] S64x128.size inb_S128x128_S64x128_0_0) (fun _ => rfl))) (.dma cc0_scoped0.sem) (View.wordExact_bits rfl) (View.wordExact_bits rfl) ⟨Or.inl rfl, trivial⟩)
            Prog.lift (.waitDma2 cc0_scoped0.sem (xV.slice (Rect.unit (s := S100000x128) (k0_off51 L) S64x128.size (k0_off51_inb L k0_h2)) (fun _ => rfl))
              (rV0.slice (Rect.unit (s := S128x128) ![0, 0] S64x128.size inb_S128x128_S64x128_0_0) (fun _ => rfl)) (View.wordExact_bits rfl) (View.wordExact_bits rfl))
            Prog.lift (.enqueueDma (bV.slice (Rect.unit (s := S100000) (k0_off52 L) S64.size (k0_off52_inb L k0_h2)) (fun _ => rfl))
              (.here (iV0.slice (Rect.unit (s := S144) ![0] S64.size inb_S144_S64_0) (fun _ => rfl))) (.dma cc0_scoped1.sem) (View.wordExact_bits rfl) (View.wordExact_bits rfl) ⟨Or.inl rfl, trivial⟩)
            Prog.lift (.waitDma2 cc0_scoped1.sem (bV.slice (Rect.unit (s := S100000) (k0_off52 L) S64.size (k0_off52_inb L k0_h2)) (fun _ => rfl))
              (iV0.slice (Rect.unit (s := S144) ![0] S64.size inb_S144_S64_0) (fun _ => rfl)) (View.wordExact_bits rfl) (View.wordExact_bits rfl))
            k
          else k : Prog (TpuEff nD τ sig (Elt F) Λ₀ (.scVector (cV L) (jV L))) α) Q := by
  by_cases h : k0_cond2 L = 1#1
  · rw [dif_pos h]
    rw [show mid d L X B q0 = filled d L X B q0 64 from if_neg ((cond2_iff L).1 h)]
    exact fetch d L X B q0 O W 64 (k0_off51 L) (k0_off51_eq L) (k0_off51_inb L h) (k0_off52 L) (k0_off52_eq L) (k0_off52_inb L h) inb_S128x128_S64x128_0_0 inb_S144_S64_0
      cc0_scoped0.sem cc0_scoped1.sem _ _ rfl (by decide) rfl rfl (by decide) rfl k Q
  · rw [dif_neg h]
    rw [show mid d L X B q0 = unfilled d L X B q0 from if_pos (not_not.1 fun hh => h ((cond2_iff L).2 hh))]
    iintro ⟨⟨-, H⟩, Hk⟩
    iapply Hk
    iexact H

/-- The guarded fetch of 72 rows: one of the first 28 tiles takes it. -/
theorem fetch72 {α : Type} (k : Prog (TpuEff nD τ sig (Elt F) Λ₀ (.scVector (cV L) (jV L))) α) (Q : α → sProp (MM F)) :
    iprop((Transfers.MayWaits (thr d L) (default : HIx 1) O ∗ owing d L O W ∗ mid d L X B q0 ∗ sem0 (F := F) d L cc0_scoped2.sem ∗ sem0 (F := F) d L cc0_scoped3.sem)
        ∗ ((owing d L O W ∗ filled d L X B q0 (tailN L) ∗ sem0 (F := F) d L cc0_scoped2.sem ∗ sem0 (F := F) d L cc0_scoped3.sem) -∗ wp frame (wpE (defs₀ (F := F)) 𝒱₀ (thr d L) none) Set.univ k Q))
      ⊢ wp frame (wpE (defs₀ (F := F)) 𝒱₀ (thr d L) none) Set.univ
          (if k0_h3 : k0_cond3 L = 1#1 then do
            Prog.lift (.enqueueDma (xV.slice (Rect.unit (s := S100000x128) (k0_off53 L) S72x128.size (k0_off53_inb L k0_h3)) (fun _ => rfl))
              (.here (rV0.slice (Rect.unit (s := S128x128) ![0, 0] S72x128.size inb_S128x128_S72x128_0_0) (fun _ => rfl))) (.dma cc0_scoped2.sem) (View.wordExact_bits rfl) (View.wordExact_bits rfl) ⟨Or.inl rfl, trivial⟩)
            Prog.lift (.waitDma2 cc0_scoped2.sem (xV.slice (Rect.unit (s := S100000x128) (k0_off53 L) S72x128.size (k0_off53_inb L k0_h3)) (fun _ => rfl))
              (rV0.slice (Rect.unit (s := S128x128) ![0, 0] S72x128.size inb_S128x128_S72x128_0_0) (fun _ => rfl)) (View.wordExact_bits rfl) (View.wordExact_bits rfl))
            Prog.lift (.enqueueDma (bV.slice (Rect.unit (s := S100000) (k0_off54 L) S72.size (k0_off54_inb L k0_h3)) (fun _ => rfl))
              (.here (iV0.slice (Rect.unit (s := S144) ![0] S72.size inb_S144_S72_0) (fun _ => rfl))) (.dma cc0_scoped3.sem) (View.wordExact_bits rfl) (View.wordExact_bits rfl) ⟨Or.inl rfl, trivial⟩)
            Prog.lift (.waitDma2 cc0_scoped3.sem (bV.slice (Rect.unit (s := S100000) (k0_off54 L) S72.size (k0_off54_inb L k0_h3)) (fun _ => rfl))
              (iV0.slice (Rect.unit (s := S144) ![0] S72.size inb_S144_S72_0) (fun _ => rfl)) (View.wordExact_bits rfl) (View.wordExact_bits rfl))
            k
          else k : Prog (TpuEff nD τ sig (Elt F) Λ₀ (.scVector (cV L) (jV L))) α) Q := by
  by_cases h : k0_cond3 L = 1#1
  · rw [dif_pos h]
    rw [show mid d L X B q0 = unfilled d L X B q0 from if_pos ((cond3_iff L).1 h), show tailN L = 72 from if_pos ((cond3_iff L).1 h)]
    exact fetch d L X B q0 O W 72 (k0_off53 L) (k0_off53_eq L) (k0_off53_inb L h) (k0_off54 L) (k0_off54_eq L) (k0_off54_inb L h) inb_S128x128_S72x128_0_0 inb_S144_S72_0
      cc0_scoped2.sem cc0_scoped3.sem _ _ rfl (by decide) rfl rfl (by decide) rfl k Q
  · rw [dif_neg h]
    have hw : ¬ widL L < 28 := fun hh => h ((cond3_iff L).2 hh)
    rw [show mid d L X B q0 = filled d L X B q0 64 from if_neg hw, show tailN L = 64 from if_neg hw]
    iintro ⟨⟨-, H⟩, Hk⟩
    iapply Hk
    iexact H

/-- A loop of no trips does nothing. -/
theorem no_trips (P : sProp (MM F)) (lp : Scf.Loop 32) (hok : lp.OK) (h : lp.trips = 0)
    (body : Fin lp.trips → Unit → Prog (TpuEff nD τ sig (Elt F) Λ₀ (.scVector (cV L) (jV L))) Unit) :
    P ⊢ wp frame (wpE (defs₀ (F := F)) 𝒱₀ (thr d L) none) Set.univ (Scf.Loop.for lp hok ⟨⟩ body) fun _ => P := by
  iintro H
  iapply (Scf.wp_for frame (wpE (defs₀ (F := F)) 𝒱₀ (thr d L) none) Set.univ lp.lb lp.ub lp.st hok ⟨⟩ body (fun _ _ => P)
    (fun k _ => absurd (lt_of_lt_of_eq k.isLt h) (by omega)))
  isplitl [H]
  · iexact H
  · iintro %u H
    iexact H

include hB in
set_option maxHeartbeats 4000000 in
/-- The task, its resources laid out: the accumulator, the two pairs of buffers, their semaphores and the sources' shares, the other
    scoped semaphores, and the slab at some contents; the slab back at the tile's partial sums. -/
theorem tile_run :
    iprop(Transfers.MayWaits (thr d L) (default : HIx 1) O ∗ owing d L O W ∗ free0 d L X B q0 ∗ free1 d L X B q1 ∗ anyP (F := F) d L aV
        ∗ (sem0 (F := F) d L cc0_scoped0.sem ∗ sem0 (F := F) d L cc0_scoped1.sem ∗ sem0 (F := F) d L cc0_scoped2.sem ∗ sem0 (F := F) d L cc0_scoped3.sem ∗ sem0 (F := F) d L cc0_scoped4.sem)
        ∗ (∃ f, oV.view.loc (thr d L) ↦[slabSet (wL L)]{fullShare} f))
      ⊢ wp frame (wpE (defs₀ (F := F)) 𝒱₀ (thr d L) none) Set.univ
          (cc0__sc_segsum_body (F := F) L xV (Memref.isWhole_whole _) bV (Memref.isWhole_whole _) oV (Memref.isWhole_whole _) rV0 (Memref.isWhole_whole _) rV1 (Memref.isWhole_whole _)
            iV0 (Memref.isWhole_whole _) iV1 (Memref.isWhole_whole _) aV (Memref.isWhole_whole _)
            cc0_scratch5 cc0_scratch6 cc0_scratch7 cc0_scratch8 cc0_scoped0 cc0_scoped1 cc0_scoped2 cc0_scoped3 cc0_scoped4)
          fun _ => iprop(owing d L O W ∗ free0 d L X B q0 ∗ free1 d L X B q1 ∗ anyP (F := F) d L aV
            ∗ (sem0 (F := F) d L cc0_scoped0.sem ∗ sem0 (F := F) d L cc0_scoped1.sem ∗ sem0 (F := F) d L cc0_scoped2.sem ∗ sem0 (F := F) d L cc0_scoped3.sem ∗ sem0 (F := F) d L cc0_scoped4.sem)
            ∗ (oV.view.loc (thr d L) ↦[slabSet (wL L)]{fullShare} partsV X B)) := by
  simp only [cc0__sc_segsum_body_eq_skeleton]
  unfold cc0__sc_segsum_body_skel
  simp only [k0_part11_eq_skeleton]
  unfold k0_part11_skel
  simp only [wp_bind, wp_pure]
  iintro ⟨#Hmw, HO, ⟨Hr0, Hs5, Hx0, Hi0, Hs7, Hb0⟩, Hfree1, Ha, ⟨Hc0, Hc1, Hc2, Hc3, Hc4⟩, %fo, Ho⟩
  iapply (wp_use (zero_loop d L X B (row0 L) aV (Memref.isWhole_whole _)))
  isplitl [Ha]; · iexact Ha
  iintro %u Ha
  iapply (wp_use (issue_rows d L X q0 (row0 L) (k0_off9 L) (k0_off9_eq L) (k0_off9_inb L) rV0 cc0_scratch5.sem NR rfl NR_pos))
  isplitl [Hr0 Hs5 Hx0]
  · isplitl [Hx0]; · iexact Hx0
    isplitl [Hr0] <;> iassumption
  iintro %u Hf
  iapply (wp_use (issue_ids d L B q0 (row0 L) 128 (k0_off10 L) (k0_off10_eq L) (k0_off10_inb L) iV0 inb_S144_S128_0 cc0_scratch7.sem NI rfl NI_pos))
  isplitl [Hi0 Hs7 Hb0]
  · isplitl [Hb0]; · iexact Hb0
    isplitl [Hi0] <;> iassumption
  iintro %u Hg
  iapply (wp_use (chunk_loop d L X B hB q0 q1 O W _))
  isplitl [HO Hf Hg Hfree1 Ha]
  · isplitr; · iexact Hmw
    isplitl [HO]; · iexact HO
    isplitl [Hf Hg]; · isplitl [Hf] <;> iassumption
    isplitl [Hfree1] <;> iassumption
  iintro %u ⟨HO, ⟨Hr0, Hs5, Hx0, Hi0, Hs7, Hb0⟩, Hfree1, Ha⟩
  iapply (fetch64 d L X B q0 O W)
  isplitl [HO Hr0 Hx0 Hi0 Hb0 Hc0 Hc1]
  · isplitr; · iexact Hmw
    isplitl [HO]; · iexact HO
    isplitr [Hc0 Hc1]
    · isplitl [Hr0 Hx0]; · isplitl [Hr0] <;> iassumption
      isplitl [Hi0] <;> iassumption
    isplitl [Hc0] <;> iassumption
  iintro ⟨HO, Hmid, Hc0, Hc1⟩
  simp only [wp_pure]
  imodintro
  iapply (fetch72 d L X B q0 O W)
  isplitl [HO Hmid Hc2 Hc3]
  · isplitr; · iexact Hmw
    isplitl [HO]; · iexact HO
    isplitl [Hmid]; · iexact Hmid
    isplitl [Hc2] <;> iassumption
  iintro ⟨HO, ⟨⟨Hr0, Hx0⟩, Hi0, Hb0⟩, Hc2, Hc3⟩
  simp only [wp_bind, wp_pure]
  have hT : tailN L ≤ 128 := by unfold tailN; split <;> omega
  iapply (wp_use (rows_loop d L X B hB (row0 L) rV0 (Memref.isWhole_whole _) iV0 (Memref.isWhole_whole _) aV (Memref.isWhole_whole _) ⟨0, by decide +kernel⟩ 2304 (tailN L) hT
    (k0_t5_loop L) (k0_t5_ok L) (t5_trips L) (t5B L rV0 (Memref.isWhole_whole _) iV0 (Memref.isWhole_whole _) aV (Memref.isWhole_whole _))
    (fun k u h => t5_eq L rV0 (Memref.isWhole_whole _) iV0 (Memref.isWhole_whole _) aV (Memref.isWhole_whole _) ⟨0, by decide +kernel⟩ k h u)))
  isplitl [Hr0 Hi0 Ha]
  · isplitl [Hr0]; · iexact Hr0
    isplitl [Hi0] <;> iassumption
  iintro %u ⟨⟨%fr0, -, Hr0⟩, ⟨%fi0, -, Hi0⟩, ⟨%fa, %ha, Ha⟩⟩
  iapply (wp_use (no_trips d L (iprop(emp)) (k0_t6_loop L) (k0_t6_ok L) (t6_trips L) _))
  isplitr; · iempintro
  iintro %u -
  iapply (wp_use (issue d L aV (oK L) cc0_scoped4.sem _ _ _ fullShare fa (oK L).view.set (Finset.Subset.refl _) (oV.view.loc (thr d L) ↦[slabSet (wL L)]{fullShare} partsV X B)
    (slab_out d L X B fa ha) ((oK L).view.amount (.dma cc0_scoped4.sem)) rfl (View.amount_pos _ _ (by decide))))
  isplitl [Ha Ho Hc4]
  · isplitl [Ha]; · iexact Ha
    isplitl [Ho]
    · iexists fo
      rw [set_oK]
      iexact Ho
    · iexact Hc4
  iintro %u Hf
  iapply (wp_use (awaitO d L O W _ (oK L) cc0_scoped4.sem _ ((oK L).view.amount (.dma cc0_scoped4.sem)) rfl))
  isplitl [Hf HO]
  · isplitr; · iexact Hmw
    isplitl [Hf] <;> iassumption
  iintro %u ⟨⟨Ho, Ha⟩, Hc4, HO⟩
  imodintro
  isplitl [HO]; · iexact HO
  isplitl [Hr0 Hs5 Hx0 Hi0 Hs7 Hb0]
  · isplitl [Hr0]; · iexists _; iexact Hr0
    isplitl [Hs5]; · iexact Hs5
    isplitl [Hx0]; · iexact Hx0
    isplitl [Hi0]; · iexists _; iexact Hi0
    isplitl [Hs7] <;> iassumption
  isplitl [Hfree1]; · iexact Hfree1
  isplitl [Ha]; · iexists _; iexact Ha
  isplitr [Ho]
  · isplitl [Hc0]; · iexact Hc0
    isplitl [Hc1]; · iexact Hc1
    isplitl [Hc2]; · iexact Hc2
    isplitl [Hc3] <;> iassumption
  · iexact Ho

end Tile

end Cert.Proof.Seg

end
-- ==== Proof.Task.lean ====
/-
  The segment-sum call as the launch theorem takes it: what each of the 32 tiles is given (a share of the features and of
  the ids, its slab of the partial sums) and what it brings back (the slab at its partial sums), the tiles' obligation,
  and the split of a SparseCore's operands among its sixteen tiles.
-/
module

public import proofs.«01_k».proof.Proof.Tile

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.ProofMode Idealize.SL.Sem
open Idealize.ShloMosaic.Tactic
open Idealize.ShloMosaic.ShareLeaves

variable {F : FTy → Type} [FloatOps F]

variable (m : (ℓ : Loc nD τ sig) → Buf (Elt F) ℓ) (ρ : Dev nD → PrngReg)

/-! ## What the call carries -/

abbrev xLoc (d : Dev nD) : Loc nD τ sig := (SparseCore.T d).loc main_arg0
abbrev bLoc (d : Dev nD) : Loc nD τ sig := (SparseCore.T d).loc main_arg2
abbrev oLoc (d : Dev nD) : Loc nD τ sig := (SparseCore.T d).loc main_v0

/-- Tile `w`'s share of the features and the ids. -/
abbrev shr (w : Fin 32) : PosShare TreeShare := leaf 5 fullShare w

/-- What tile `w` is given, and what it brings back. -/
abbrev goP (d : Dev nD) (w : Fin 32) : sProp (MM F) :=
  iprop((xLoc d ↦{shr w} m (xLoc d)) ∗ (bLoc d ↦{shr w} m (bLoc d)) ∗ (oLoc d ↦[slabSet w]{fullShare} m (oLoc d)))
abbrev tdP (d : Dev nD) (w : Fin 32) : sProp (MM F) :=
  iprop((xLoc d ↦{shr w} m (xLoc d)) ∗ (bLoc d ↦{shr w} m (bLoc d)) ∗ (oLoc d ↦[slabSet w]{fullShare} (partsV (m (xLoc d)) (m (bLoc d)) : Buf (Elt F) (oLoc d))))

/-- The tile's number from the SparseCore's and the subcore's. -/
def wOf (c : Fin 2) (i : Fin 16) : Fin 32 := ⟨16 * c.val + i.val, by omega⟩

def P : (K (F := F)).Pay (nD := nD) (Val := Elt F) (Name := ℕ) (U := UU) where
  st := fun q d c => match q with | 0 => bigSep Finset.univ fun i : Fin ((K (F := F)).nSub 0) => goP m d (wOf (Fin.cast nCore_zero c) (Fin.cast nSub_zero i))
  dn := fun q d c => match q with | 0 => bigSep Finset.univ fun i : Fin ((K (F := F)).nSub 0) => tdP m d (wOf (Fin.cast nCore_zero c) (Fin.cast nSub_zero i))
  go := fun q d c i => match q with | 0 => goP m d (wOf (Fin.cast nCore_zero c) (Fin.cast nSub_zero i))
  td := fun q d c i => match q with | 0 => tdP m d (wOf (Fin.cast nCore_zero c) (Fin.cast nSub_zero i))
  x := fun _ _ => iprop(emp)

instance P_storable : (P (F := F) m).IsStorable where
  st q d c := match q with
    | 0 => (inferInstance : BI.Storable (upEmb : UEmb _ (MM F)) (bigSep Finset.univ fun i : Fin ((K (F := F)).nSub 0) => goP m d (wOf (Fin.cast nCore_zero c) (Fin.cast nSub_zero i))))
  dn q d c := match q with
    | 0 => (inferInstance : BI.Storable (upEmb : UEmb _ (MM F)) (bigSep Finset.univ fun i : Fin ((K (F := F)).nSub 0) => tdP m d (wOf (Fin.cast nCore_zero c) (Fin.cast nSub_zero i))))
  go q d c i := match q with
    | 0 => (inferInstance : BI.Storable (upEmb : UEmb _ (MM F)) (goP m d (wOf (Fin.cast nCore_zero c) (Fin.cast nSub_zero i))))
  td q d c i := match q with
    | 0 => (inferInstance : BI.Storable (upEmb : UEmb _ (MM F)) (tdP m d (wOf (Fin.cast nCore_zero c) (Fin.cast nSub_zero i))))

/-- What the proof asks of the launch memory: every segment id is below 512. -/
def PreOK : Prop := ∀ (d : Dev nD) (j : S100000.Idx), (m (bLoc d) j).toNat < 512

/-! ## A tile's scoped storage, its named parts taken out -/

omit [FloatOps F] in
/-- A listed part of a `bigSep`, taken out in the list's order. -/
theorem bigSep_take {I : Type} [DecidableEq I] (Φ : I → sProp (MM F)) :
    ∀ (l : List I) (s : Finset I), l.Nodup → (∀ a ∈ l, a ∈ s) → bigSep s Φ = l.foldr (fun a R => iprop(Φ a ∗ R)) (bigSep (s \ l.toFinset) Φ)
  | [], s, _, _ => by simp
  | a :: l, s, hn, hs => by
    rw [SparseCore.bigSep_erase' (hs a (List.mem_cons_self ..)), bigSep_take Φ l (s.erase a) (List.nodup_cons.1 hn).2 (fun b hb =>
      Finset.mem_erase.2 ⟨fun e => (List.nodup_cons.1 hn).1 (e ▸ hb), hs b (List.mem_cons_of_mem _ hb)⟩)]
    rw [List.foldr_cons, List.toFinset_cons, show s.erase a \ l.toFinset = s \ insert a l.toFinset from by
      ext b; simp only [Finset.mem_sdiff, Finset.mem_erase, Finset.mem_insert, not_or]; tauto]

/-- The tile's DMA semaphores, and its scratch buffers. -/
def semsL : List (SemLoc sig) := [.dma cc0_scratch5.sem, .dma cc0_scratch6.sem, .dma cc0_scratch7.sem, .dma cc0_scratch8.sem,
  .dma cc0_scoped0.sem, .dma cc0_scoped1.sem, .dma cc0_scoped2.sem, .dma cc0_scoped3.sem, .dma cc0_scoped4.sem]
def bufsL : List (Ref sig .scVector) := [cc0_scratch0, cc0_scratch1, cc0_scratch2, cc0_scratch3, cc0_scratch4]

theorem bufsL_nodup : bufsL.Nodup := by decide

section Tile

variable (d : Dev nD) (L : grid0.Coords)

omit [FloatOps F] in
theorem ownSems0_V : (ownSems0 (thr d L) : sProp (MM F))
    = (semsL.map fun s => ((thr d L, s) : GSem nD τ sig)).foldr (fun g R => iprop(semVal g 0 ∗ R)) (bigSep (ownCells (thr d L) \ (semsL.map fun s => ((thr d L, s) : GSem nD τ sig)).toFinset) fun g => semVal g 0) := by
  unfold SparseCore.Cfg.ownSems0
  refine bigSep_take (F := F) _ _ _ (List.Nodup.map (fun a b h => congrArg Prod.snd h) (by decide)) ?_
  intro g hg
  obtain ⟨s, hs, rfl⟩ := List.mem_map.1 hg
  refine mem_ownCells.2 ⟨rfl, ?_⟩
  exact (by decide : ∀ s ∈ semsL, s.isScoped .scVector = true) s hs

omit [FloatOps F] in
theorem ownBufs_V : (ownBufs (thr d L) : sProp (MM F))
    = (bufsL.map fun b => (Proc.scVector (cV L) (jV L)).devRef b).foldr (fun b R => iprop((∃ f, ((d, b) : Loc nD τ sig) ↦{fullShare} f) ∗ R))
        (bigSep (ownRefs (τ := τ) (.scVector (cV L) (jV L)) \ (bufsL.map fun b => (Proc.scVector (cV L) (jV L)).devRef b).toFinset) fun b => iprop(∃ f, ((d, b) : Loc nD τ sig) ↦{fullShare} f)) := by
  unfold SparseCore.Cfg.ownBufs
  refine bigSep_take (F := F) (fun b => iprop(∃ f, ((d, b) : Loc nD τ sig) ↦{fullShare} f)) _ _ (List.Nodup.map (Proc.devRef_injective _) bufsL_nodup) ?_
  intro b hb
  obtain ⟨r, hr, rfl⟩ := List.mem_map.1 hb
  refine SparseCore.Cfg.mem_ownRefs_of_owner (p := Proc.scVector (cV L) (jV L)) ?_
  simp only [bufsL, List.mem_cons, List.not_mem_nil] at hr
  rcases hr with rfl | rfl | rfl | rfl | rfl | hr
  iterate 5 rfl
  exact hr.elim

set_option maxHeartbeats 4000000 in
/-- The task on one tile, from what the launch hands it. -/
theorem tile_body (hpre : PreOK m) (O : CellTallies nD τ sig (HIx 1)) (W : Waits sig (HIx 1)) (hO : ∀ g, O g none = 0) :
    iprop(levAts (K (F := F)).L (K (F := F)).lev ∗ emp ∗ goP m d (wL L) ∗ scopedBufs (thr d L) ∗ scopedSems0 (thr d L) ∗ owes (thr d L) O W)
      ⊢ wp frame (wpE (defs₀ (F := F)) 𝒱₀ (thr d L) none) Set.univ
          (cc0__sc_segsum_body (F := F) L xV (Memref.isWhole_whole _) bV (Memref.isWhole_whole _) oV (Memref.isWhole_whole _) rV0 (Memref.isWhole_whole _) rV1 (Memref.isWhole_whole _)
            iV0 (Memref.isWhole_whole _) iV1 (Memref.isWhole_whole _) aV (Memref.isWhole_whole _)
            cc0_scratch5 cc0_scratch6 cc0_scratch7 cc0_scratch8 cc0_scoped0 cc0_scoped1 cc0_scoped2 cc0_scoped3 cc0_scoped4)
          fun _ => iprop(tdP m d (wL L) ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_V, ownBufs_V]
  simp only [semsL, bufsL, List.map_cons, List.map_nil, List.foldr_cons, List.foldr_nil]
  iintro ⟨#Hlv, -, ⟨Hx, Hb, Ho⟩, ⟨Hr0, Hr1, Hi0, Hi1, Ha, Hbufs⟩, ⟨Hs5, Hs6, Hs7, Hs8, Hc0, Hc1, Hc2, Hc3, Hc4, Hsems⟩, HO⟩
  ihave Hmw := (show levAts (K (F := F)).L (K (F := F)).lev ⊢ Transfers.MayWaits (thr d L) (default : HIx 1) O from
    (K (F := F)).mayWaits_none (thr := thr d L) hO) $$ Hlv
  ihave Hx := (pointsTo_share (PosShare.mem_left_op_right (shr (wL L)))).1 $$ Hx
  ihave Hb := (pointsTo_share (PosShare.mem_left_op_right (shr (wL L)))).1 $$ Hb
  icases Hx with ⟨Hx0, Hx1⟩
  icases Hb with ⟨Hb0, Hb1⟩
  iapply (wp_use (tile_run d L (m (xLoc d)) (m (bLoc d)) (hpre d) (shr (wL L)).left (shr (wL L)).right O W))
  isplitl [Hmw HO Hr0 Hr1 Hi0 Hi1 Ha Hs5 Hs6 Hs7 Hs8 Hc0 Hc1 Hc2 Hc3 Hc4 Ho Hx0 Hx1 Hb0 Hb1]
  · isplitl [Hmw]; · iexact Hmw
    isplitl [HO]
    · iexists W
      isplitr
      · ipureintro; exact fun p hp => Or.inl hp
      · iexact HO
    isplitl [Hr0 Hs5 Hx0 Hi0 Hs7 Hb0]
    · isplitl [Hr0]; · iexact Hr0
      isplitl [Hs5]; · iexact Hs5
      isplitl [Hx0]; · iexact Hx0
      isplitl [Hi0]; · iexact Hi0
      isplitl [Hs7]; · iexact Hs7
      iexact Hb0
    isplitl [Hr1 Hs6 Hx1 Hi1 Hs8 Hb1]
    · isplitl [Hr1]; · iexact Hr1
      isplitl [Hs6]; · iexact Hs6
      isplitl [Hx1]; · iexact Hx1
      isplitl [Hi1]; · iexact Hi1
      isplitl [Hs8]; · iexact Hs8
      iexact Hb1
    isplitl [Ha]; · iexact Ha
    isplitr [Ho]
    · isplitl [Hc0]; · iexact Hc0
      isplitl [Hc1]; · iexact Hc1
      isplitl [Hc2]; · iexact Hc2
      isplitl [Hc3]; · iexact Hc3
      iexact Hc4
    · iexists _; iexact Ho
  iintro %u ⟨HO, ⟨Hr0, Hs5, Hx0, Hi0, Hs7, Hb0⟩, ⟨Hr1, Hs6, Hx1, Hi1, Hs8, Hb1⟩, Ha, ⟨Hc0, Hc1, Hc2, Hc3, Hc4⟩, Ho⟩
  isplitl [Hx0 Hx1 Hb0 Hb1 Ho]
  · isplitl [Hx0 Hx1]
    · iapply (pointsTo_share (PosShare.mem_left_op_right (shr (wL L)))).2
      isplitl [Hx0]; · iexact Hx0
      iexact Hx1
    isplitl [Hb0 Hb1]
    · iapply (pointsTo_share (PosShare.mem_left_op_right (shr (wL L)))).2
      isplitl [Hb0]; · iexact Hb0
      iexact Hb1
    · iexact Ho
  isplitl [Hr0 Hr1 Hi0 Hi1 Ha Hbufs]
  · isplitl [Hr0]; · iexact Hr0
    isplitl [Hr1]; · iexact Hr1
    isplitl [Hi0]; · iexact Hi0
    isplitl [Hi1]; · iexact Hi1
    isplitl [Ha]; · iexact Ha
    iexact Hbufs
  isplitl [Hs5 Hs6 Hs7 Hs8 Hc0 Hc1 Hc2 Hc3 Hc4 Hsems]
  · isplitl [Hs5]; · iexact Hs5
    isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    isplitl [Hc4]; · iexact Hc4
    iexact Hsems
  iexact HO

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_segsum_body (F := F) (coordsV c s) xV (Memref.isWhole_whole _) bV (Memref.isWhole_whole _) oV (Memref.isWhole_whole _)
          rV0 (Memref.isWhole_whole _) rV1 (Memref.isWhole_whole _) iV0 (Memref.isWhole_whole _) iV1 (Memref.isWhole_whole _) aV (Memref.isWhole_whole _)
          cc0_scratch5 cc0_scratch6 cc0_scratch7 cc0_scratch8 cc0_scoped0 cc0_scoped1 cc0_scoped2 cc0_scoped3 cc0_scoped4) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets its obligation. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

/-- A SparseCore's operands are its tiles' at once, and so are its results. -/
theorem vecSplit : (K (F := F)).VecSplit' (P m) 0 := by
  intro d c
  show (bigSep Finset.univ fun i : Fin ((K (F := F)).nSub 0) => goP m d (wOf (Fin.cast nCore_zero c) (Fin.cast nSub_zero i)))
    ⊢ |={Set.univ}=> iprop((bigSep Finset.univ fun i : Fin ((K (F := F)).nSub 0) => goP m d (wOf (Fin.cast nCore_zero c) (Fin.cast nSub_zero i)))
      ∗ ((bigSep Finset.univ fun i : Fin ((K (F := F)).nSub 0) => tdP m d (wOf (Fin.cast nCore_zero c) (Fin.cast nSub_zero i)))
        -∗ bigSep Finset.univ fun i : Fin ((K (F := F)).nSub 0) => tdP m d (wOf (Fin.cast nCore_zero c) (Fin.cast nSub_zero i))))
  iintro H
  imodintro
  isplitl [H]; · iexact H
  iintro H
  iexact H

end Cert.Proof.Seg

end
-- ==== Proof.Regions.lean ====
/-
  One region of the program's three TensorCore pipelines, as a segment of @main after the SparseCore call. The region is
  entered with every unscoped buffer of the TensorCore held at a valuation, and left with them at that valuation updated at the
  region's output. What the core's earlier waits recorded stays bounded, as the SparseCore handshake asks at the end of @main.
-/
module

public import proofs.«01_k».proof.Proof.Base
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameTail

@[expose] public section

noncomputable section

namespace Cert.Proof.Seg

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- The pairs of a semaphore and a stage that sit no higher than the end of the SparseCore call. -/
def below (d : Dev nD) : Set (SemLoc sig × HIx 1) := {p | (K (F := F)).lev (d.tc, p.1) p.2 ≤ 8}

/-- What the core owes between two segments: nothing, with every wait recorded so far bounded. -/
def owesB (d : Dev nD) : sProp 𝕄 :=
  iprop(∃ W, ⌜(K (F := F)).WBelow (d.tc : Thread nD τ) W 8⌝ ∗ owes (d.tc : Thread nD τ) 0 W)

/-- The prefetched tables' contents: there are none. -/
abbrev adm (p : Fin 3) : (pcfgs (F := F) p).Adm := (cfgs p).toPCfg_adm

/-- The proof data of the three pipelines. -/
abbrev Dats (F : FTy → Type) [FloatOps F] : Type :=
  (p : Fin 3) → (c : Dev nD) → Dat τ (Elt F) (HIx 1) ℕ UU ℕ (Pipeline.pin (pcfgs (F := F)) adm p) c

/-- The thread state between two segments, at a valuation of the unscoped buffers. -/
def held (c : Dev nD) (W : Valuation τ sig (Elt F)) : sProp 𝕄 :=
  iprop(StableHlo.held (c.tc : Thread nD τ) (Pipeline.ucRefs τ sig) W ∗ owesB c)

/-- A pipeline's arrays are unscoped. -/
theorem arrRefs_sub (p : Fin 3) (kit : Pipeline.PLaunchFacts (nD := nD) (τ := τ) (pcfgs (F := F)) p) :
    Pipeline.arrRefs (τ := τ) (pcfgs (F := F) p).spec ⊆ Pipeline.ucRefs τ sig :=
  Pipeline.arrRefs_sub_ucRefs _ kit.win.arr_unscoped

/-- A region of one pipeline: entered with the unscoped buffers at `W c`, left with them at the library's valuation after the
    region. Its proof data owe nothing, name no table and keep the scoped buffers no window stages. -/
def region (pdats : Dats F) (p : Fin 3) (kit : Pipeline.PLaunchFacts (nD := nD) (τ := τ) (pcfgs (F := F)) p)
    (hbody : ∀ c, BodyObligation (pdats p c) (defs₀ (F := F)) 𝒱₀ none Set.univ)
    (howed : ∀ c t, (pdats p c).owed t = 0) (hrec : ∀ c t, (pdats p c).recorded t = below (F := F) c)
    (hshare : ∀ c w, (pdats p c).share w = fullShare)
    (hΦ : ∀ c t, (pdats p c).Φ t = Pipeline.scopedRest (Pipeline.pin (pcfgs (F := F)) adm p).spec c)
    (W : Dev nD → Valuation τ sig (Elt F))
    (hW : ∀ c w, (pdats p c).arrAt w 0 = W c (Proc.devRef .tc (Pipeline.arrRef (Pipeline.pin (pcfgs (F := F)) adm p).spec w))) :
    Pipeline.RegionSeg (pcfgs (F := F)) adm pdats none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ (K (F := F)).L (K (F := F)).lev p fun c => howed c
  pre c := held c (W c)
  post c := held c (Pipeline.afterRegion (pdats p c) (W c))
  X _ := BI.emp
  Y _ := BI.emp
  Z c := StableHlo.held (c.tc : Thread nD τ) (Pipeline.ucRefs τ sig \ Pipeline.arrRefs (pcfgs (F := F) p).spec) (W c)
  hentry c := by
    rw [Pipeline.ownSems0_none, Pipeline.prefHeld_of_none _ rfl]
    unfold held owesB
    rw [StableHlo.held_sub_split (c.tc : Thread nD τ) (arrRefs_sub p kit) (W c),
      ← Pipeline.arrays_held (pcfgs (F := F)) adm pdats p kit c (hshare c) ((pdats p c).arrAt · 0) (W c) (hW c)]
    iintro ⟨⟨⟨Ha, Hz⟩, HO⟩, -, -⟩
    imodintro
    isplitl [Ha]; · iexact Ha
    isplitr; · iempintro
    isplitl [HO]
    · unfold Pipeline.Dat.owesAt Pipeline.owesWithin Pipeline.Dat.bound
      rw [howed c 0, hrec c 0]
      icases HO with ⟨%W', %hW', HO⟩; iexists W'; isplitr
      · ipureintro; exact fun q hq => Or.inl (hW' q hq)
      iexact HO
    isplitr; · iempintro
    iexact Hz
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    unfold held owesB
    rw [StableHlo.held_sub_split (c.tc : Thread nD τ) (arrRefs_sub p kit) (Pipeline.afterRegion (pdats p c) (W c)),
      StableHlo.held_congr (c.tc : Thread nD τ) (S := Pipeline.ucRefs τ sig \ Pipeline.arrRefs (pcfgs (F := F) p).spec)
        (V := Pipeline.afterRegion (pdats p c) (W c)) (V' := W c) (Pipeline.afterRegion_off (pdats p c) (W c) _),
      Pipeline.arrays_held (pcfgs (F := F)) adm pdats p kit c (hshare c) ((pdats p c).arrAt · (Pipeline.pin (pcfgs (F := F)) adm p).N)
        (Pipeline.afterRegion (pdats p c) (W c)) (fun w => (Pipeline.afterRegion_arr (pdats p c) (W c) kit.win.arr_inj w).symm)]
    iintro ⟨Ha, HO, -, Hz⟩
    imodintro
    isplitl [Ha Hz]
    · isplitl [Ha] <;> iassumption
    unfold Pipeline.Dat.owesAt Pipeline.owesWithin Pipeline.Dat.bound
    rw [howed c (Fin.last _), hrec c (Fin.last _)]
    icases HO with ⟨%W', %hW', HO⟩; iexists W'; isplitr
    · ipureintro
      intro q hq
      rcases hW' hq with h | h
      · exact h
      · obtain ⟨w, s, e⟩ := h
        rw [e]; exact Nat.zero_le _
    iexact HO

end Cert.Proof.Seg

end
-- ==== Proof.RegPe.lean ====
/-
  The first TensorCore call: the per-graph sums of the positional encodings and the graph sizes. Its body run once, its proof data
  and its body obligation.
-/
module

public import proofs.«01_k».proof.Proof.Regions

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- A TensorCore buffer's contents on device `c`, and the buffer held whole at some contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the output's staging buffer, with the proof that it runs to its return from the three buffers held. -/
noncomputable def peRun (c : Dev nD) (f0 : Bf (F := F) c (stage1_0 0)) (f1 : Bf (F := F) c (stage1_1 0)) :
    { W : Bf (F := F) c (stage1_2 0) // ∀ (f2 : Bf (F := F) c (stage1_2 0)) (E : Set ℕ) (Q : PUnit → sProp 𝕄),
        iprop(pt c (stage1_0 0) f0 ∗ pt c (stage1_1 0) f1 ∗ pt c (stage1_2 0) f2
            ∗ (iprop(pt c (stage1_0 0) f0 ∗ pt c (stage1_1 0) f1 ∗ pt c (stage1_2 0) W) -∗ Q ⟨⟩))
          ⊢ wp frame (wpE (defs₀ (F := F)) Variants.none c none) E
              (cc1__tc_pe_body (stage1_0 0) (hstage1_0 0) (stage1_1 0) (hstage1_1 0) (stage1_2 0) (hstage1_2 0)) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

/-! ## The proof data at an entry valuation -/

variable (V : Valuation τ sig (Elt F))

/-- The encodings' block and the ids' block as the fetches stage them. -/
abbrev peStg0 : (cfg1.win 0).block.Idx → Elt F (cfg1.win 0).elt := ((cfg1.win 0).blk t1_0).view.read (Elt F) (V (Proc.devRef .tc main_v1))
abbrev peStg1 : (cfg1.win 1).block.Idx → Elt F (cfg1.win 1).elt := ((cfg1.win 1).blk t1_0).view.read (Elt F) (V (Proc.devRef .tc main_v2))

/-- The run at the staged blocks. -/
abbrev peOut (c : Dev nD) := peRun (F := F) c (peStg0 V) (peStg1 V)

/-- The proof data of the first TensorCore call from the valuation `V`. -/
def datPe (c : Dev nD) : Dat τ (Elt F) (HIx 1) ℕ UU ℕ cfg1 c where
  A w := V (Proc.devRef .tc (Pipeline.arrRef spec1 w))
  after w _ := match w with
    | ⟨0, _⟩ => peStg0 V
    | ⟨1, _⟩ => peStg1 V
    | ⟨2, _⟩ => (peOut V c).1
  Φ _ := Pipeline.scopedRest (Ix := HIx 1) (Name := ℕ) (U := UU) (Lvl := ℕ) (Val := Elt F) cfg1.spec c
  q _ := fullShare
  owed _ := 0
  recorded _ := below (F := F) c

theorem pe_before0 (c : Dev nD) (d : (cfg1.win 0).block.Idx → Elt F (cfg1.win 0).elt) : (datPe V c).before 0 t1_0 d = peStg0 V := by
  unfold Dat.before; rw [if_pos (by decide)]; rfl
theorem pe_before1 (c : Dev nD) (d : (cfg1.win 1).block.Idx → Elt F (cfg1.win 1).elt) : (datPe V c).before 1 t1_0 d = peStg1 V := by
  unfold Dat.before; rw [if_pos (by decide)]; rfl

/-- The body's obligation: the staging buffers taken apart, the run applied, its end reassembled. -/
theorem pe_body (c : Dev nD) : BodyObligation (datPe V c) (defs₀ (F := F)) 𝒱₀ none Set.univ := fun t => by
  obtain rfl := fin_N1 t
  rw [bigSep_W1, bigSep_W1]
  simp only [owns_whole_eq]
  rw [show (datPe V c).Φ t1_0.succ = (datPe V c).Φ t1_0.castSucc from rfl,
    show (datPe V c).owesAt none t1_0.succ = (datPe V c).owesAt none t1_0.castSucc from rfl]
  iintro ⟨HΦ, Howes, ⟨%d0, %f0, %hf0, H0⟩, ⟨%d1, %f1, %hf1, H1⟩, ⟨%d2, %f2, -, H2⟩⟩
  rw [pe_before0] at hf0
  rw [pe_before1] at hf1
  subst hf0 hf1
  iapply ((peOut V c).2 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [datPe]
  isplitl [H1]; · iexists _; isplitr; swap; (· iexact H1); ipureintro; dsimp only [datPe]
  iexists _; isplitr; swap; (· iexact H2); ipureintro; dsimp only [datPe]

end Cert.Proof.Seg
end
-- ==== Proof.RegX.lean ====
/-
  The second TensorCore call: the per-graph sums of the last 24000 rows, accumulated over a grid of twelve blocks. Its body run in its
  two cases, its proof data and its body obligation.
-/
module

public import proofs.«01_k».proof.Proof.RegPe
public import Idealize.ShloMosaic.Lib.LaneScatter.Own

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- A memref held whole at contents that read `X`. -/
abbrev rawAt (c : Dev nD) {sp : Space} {S : Shape} {e : EltTy} (M : Memref sig .tc sp S e) (h : M.IsWhole) (X : S.Idx → Elt F e) : sProp 𝕄 :=
  M.view.loc (c : Thread nD τ) ↦[M.view.set]{fullShare} h.unread X

/-- The condition of the body's reset: the grid coordinate is zero. -/
abbrev xCond (i : grid2.Coords) : Prop := (Scalar.cmpi .ne (Scalar.extui (Scalar.cmpi .eq (BitVec.ofNat 32 (i 0).val) 0#32) : BitVec 32) 0#32) = 1#1

section Runs

variable (c : Dev nD) (i : grid2.Coords)
  (a1 : Memref sig .tc .vmem S2000x128 .f32) (h1 : a1.IsWhole) (a2 : Memref sig .tc .vmem S1x1x2000 .i32) (h2 : a2.IsWhole)
  (a3 : Memref sig .tc .vmem S512x128 .f32) (h3 : a3.IsWhole)

/-- What the body leaves in the accumulator when the coordinate is not zero, with the proof that it runs to its return. -/
noncomputable def xRunB (hc : ¬ xCond i) (x : Vec F S2000x128 .f32) (ids : Vec F S1x1x2000 .i32) (acc : Vec F S512x128 .f32) :
    { W : a3.view.ty.Contents (Elt F) // ∀ (E : Set ℕ) (Q : PUnit → sProp 𝕄),
        iprop(rawAt c a1 h1 x ∗ rawAt c a2 h2 ids ∗ rawAt c a3 h3 acc
            ∗ (iprop(rawAt c a1 h1 x ∗ rawAt c a2 h2 ids ∗ (a3.view.loc (c : Thread nD τ) ↦[a3.view.set]{fullShare} W)) -∗ Q ⟨⟩))
          ⊢ wp frame (wpE (defs₀ (F := F)) Variants.none c none) E
              (cc2__tc_x_body i a1 h1 a2 h2 a3 h3) Q } := by
  refine ⟨?_, fun E Q => ?run⟩
  case run =>
    unfold cc2__tc_x_body
    rw [dif_neg hc]
    iintro ⟨H0, H1, H2, Hk⟩
    sl_exec!
    sl_step
    iapply Hk
    isplitl [H0]; · iexact H0
    isplitl [H1]; · iexact H1
    iexact H2

/-- The same when the coordinate is zero: the accumulator is first reset, whatever it held. -/
noncomputable def xRunA (hc : xCond i) (x : Vec F S2000x128 .f32) (ids : Vec F S1x1x2000 .i32) (acc : Vec F S512x128 .f32) :
    { W : a3.view.ty.Contents (Elt F) // ∀ (E : Set ℕ) (Q : PUnit → sProp 𝕄),
        iprop(rawAt c a1 h1 x ∗ rawAt c a2 h2 ids ∗ rawAt c a3 h3 acc
            ∗ (iprop(rawAt c a1 h1 x ∗ rawAt c a2 h2 ids ∗ (a3.view.loc (c : Thread nD τ) ↦[a3.view.set]{fullShare} W)) -∗ Q ⟨⟩))
          ⊢ wp frame (wpE (defs₀ (F := F)) Variants.none c none) E
              (cc2__tc_x_body i a1 h1 a2 h2 a3 h3) Q } := by
  refine ⟨?_, fun E Q => ?run⟩
  case run =>
    unfold cc2__tc_x_body
    rw [dif_pos hc]
    iintro ⟨H0, H1, H2, Hk⟩
    sl_exec!
    sl_step
    iapply Hk
    isplitl [H0]; · iexact H0
    isplitl [H1]; · iexact H1
    iexact H2

theorem hz2 : (![0, 0] : Fin 2 → Nat) = fun _ => 0 := funext fun a => by fin_cases a <;> rfl
theorem hz3 : (![0, 0, 0] : Fin 3 → Nat) = fun _ => 0 := funext fun a => by fin_cases a <;> rfl

/-- A store of the whole accumulator covers it. -/
theorem cover_acc (v : FVec F S512x128 .f32) (L : List (View.Piece (Elt F) S512x128 .f32)) (h : ∀ a, (![0, 0] : Fin 2 → Nat) a + S512x128.size a ≤ S512x128.size a)
    (y : S512x128.Idx) : ∃ p ∈ ((⟨Rect.unit (s := S512x128) ![0, 0] S512x128.size h, v⟩ : View.Piece (Elt F) S512x128 .f32) :: L), y ∈ p.1.set :=
  ⟨_, List.mem_cons_self, View.mem_set_unit_zero (S := S512x128) hz2 h y⟩

/-- Away from the reset the accumulator ends one block further. -/
theorem xRunB_read (hc : ¬ xCond i) (x : Vec F S2000x128 .f32) (ids : Vec F S1x1x2000 .i32) (acc : Vec F S512x128 .f32) :
    a3.view.read (Elt F) (xRunB c i a1 h1 a2 h2 a3 h3 hc x ids acc).1 = k2_pay2 ids acc x := by
  unfold xRunB
  dsimp only
  sl_unfold_words
  rw [View.read_writes_eq_canon _ _ _ (cover_acc _ _ _)]
  rw [View.canon_unit_zero hz2]
  unfold k2_pay2
  simp only [View.readAt_eq_ld, h1.read_unread, h2.read_unread, h3.read_unread, View.ld_unit_zero (S := S512x128) hz2,
    View.ld_unit_zero (S := S2000x128) hz2, View.ld_unit_zero (S := S1x1x2000) hz3]

/-- At the reset the accumulator ends at the first block's sums. -/
theorem xRunA_read (hc : xCond i) (x : Vec F S2000x128 .f32) (ids : Vec F S1x1x2000 .i32) (acc : Vec F S512x128 .f32) :
    a3.view.read (Elt F) (xRunA c i a1 h1 a2 h2 a3 h3 hc x ids acc).1 = k2_pay2 ids k2_pay1 x := by
  unfold xRunA
  dsimp only
  sl_unfold_words
  rw [View.read_writes_eq_canon _ _ _ (cover_acc _ _ _)]
  rw [View.canon_cons_unit_zero (S := S512x128) hz2, View.readCov_unit_zero (S := S512x128) _ hz2]
  unfold k2_pay2 k2_pay1
  simp only [View.readAt_eq_ld, h1.read_unread, h2.read_unread,
    View.ld_unit_zero (S := S2000x128) hz2, View.ld_unit_zero (S := S1x1x2000) hz3]

/-- The body over whole memrefs held: the accumulator ends at one block more than `Z`, the zero block at the reset and what it held
    elsewhere. -/
theorem x_run (x : Vec F S2000x128 .f32) (ids : Vec F S1x1x2000 .i32) (acc Z : Vec F S512x128 .f32)
    (hA : xCond i → Z = k2_pay1) (hB : ¬ xCond i → Z = acc) :
    iprop(owns (c : Thread nD τ) a1 fullShare x ∗ owns (c : Thread nD τ) a2 fullShare ids ∗ owns (c : Thread nD τ) a3 fullShare acc)
      ⊢ (wp frame (wpE (defs₀ (F := F)) Variants.none c none) Set.univ (cc2__tc_x_body i a1 h1 a2 h2 a3 h3) fun _ =>
        iprop(owns (c : Thread nD τ) a1 fullShare x ∗ owns (c : Thread nD τ) a2 fullShare ids
          ∗ owns (c : Thread nD τ) a3 fullShare (k2_pay2 ids Z x)) : sProp 𝕄) := by
    iintro ⟨H0, H1, H2⟩
    ihave H0 := (LaneScatter.owns_raw (c : Thread nD τ) a1 h1 _) $$ H0
    ihave H1 := (LaneScatter.owns_raw (c : Thread nD τ) a2 h2 _) $$ H1
    ihave H2 := (LaneScatter.owns_raw (c : Thread nD τ) a3 h3 _) $$ H2
    by_cases hc : xCond i
    · iapply ((xRunA c i a1 h1 a2 h2 a3 h3 hc x ids acc).2 Set.univ _)
      isplitl [H0]; · iexact H0
      isplitl [H1]; · iexact H1
      isplitl [H2]; · iexact H2
      iintro ⟨H0, H1, H2⟩
      isplitl [H0]; · iapply (LaneScatter.raw_owns (c : Thread nD τ) a1 (h1.read_unread _)) $$ H0
      isplitl [H1]; · iapply (LaneScatter.raw_owns (c : Thread nD τ) a2 (h2.read_unread _)) $$ H1
      rw [hA hc]
      iapply (LaneScatter.raw_owns (c : Thread nD τ) a3 (xRunA_read c i a1 h1 a2 h2 a3 h3 hc x ids acc)) $$ H2
    · iapply ((xRunB c i a1 h1 a2 h2 a3 h3 hc x ids acc).2 Set.univ _)
      isplitl [H0]; · iexact H0
      isplitl [H1]; · iexact H1
      isplitl [H2]; · iexact H2
      iintro ⟨H0, H1, H2⟩
      isplitl [H0]; · iapply (LaneScatter.raw_owns (c : Thread nD τ) a1 (h1.read_unread _)) $$ H0
      isplitl [H1]; · iapply (LaneScatter.raw_owns (c : Thread nD τ) a2 (h2.read_unread _)) $$ H1
      rw [hB hc]
      iapply (LaneScatter.raw_owns (c : Thread nD τ) a3 (xRunB_read c i a1 h1 a2 h2 a3 h3 hc x ids acc)) $$ H2

end Runs

/-- The reset is taken at the first point alone. -/
theorem xCond_iff : ∀ t : Fin cfg2.N, xCond (grid2.coords t) ↔ t.val = 0 :=
  (by decide +kernel : ∀ t : Fin grid2.N, xCond (grid2.coords t) ↔ t.val = 0)

/-! ## The proof data at an entry valuation -/

variable (V : Valuation τ sig (Elt F))

/-- The rows' block and the ids' block of point `t` as the fetches stage them. -/
abbrev xStg0 (t : Fin cfg2.N) : (cfg2.win 0).block.Idx → Elt F (cfg2.win 0).elt := ((cfg2.win 0).blk t).view.read (Elt F) (V (Proc.devRef .tc main_arg0))
abbrev xStg1 (t : Fin cfg2.N) : (cfg2.win 1).block.Idx → Elt F (cfg2.win 1).elt := ((cfg2.win 1).blk t).view.read (Elt F) (V (Proc.devRef .tc main_v4))

/-- The accumulator after the first `n` blocks. -/
def xAcc : ℕ → FVec F S512x128 .f32
  | 0 => k2_pay1
  | n + 1 => if h : n < cfg2.N then k2_pay2 (xStg1 V ⟨n, h⟩) (xAcc n) (xStg0 V ⟨n, h⟩) else xAcc n

theorem xAcc_succ (t : Fin cfg2.N) : xAcc V (t.val + 1) = k2_pay2 (xStg1 V t) (xAcc V t.val) (xStg0 V t) := by
  rw [xAcc, dif_pos t.isLt]

/-- The proof data of the second TensorCore call from the valuation `V`. -/
def datX (c : Dev nD) : Dat τ (Elt F) (HIx 1) ℕ UU ℕ cfg2 c where
  A w := V (Proc.devRef .tc (Pipeline.arrRef spec2 w))
  after w t := match w with
    | ⟨0, _⟩ => xStg0 V t
    | ⟨1, _⟩ => xStg1 V t
    | ⟨2, _⟩ => xAcc V (t.val + 1)
  Φ _ := Pipeline.scopedRest (Ix := HIx 1) (Name := ℕ) (U := UU) (Lvl := ℕ) (Val := Elt F) cfg2.spec c
  q _ := fullShare
  owed _ := 0
  recorded _ := below (F := F) c

theorem x_before0 (c : Dev nD) (t : Fin cfg2.N) (d : (cfg2.win 0).block.Idx → Elt F (cfg2.win 0).elt) : (datX V c).before 0 t d = xStg0 V t := by
  rw [Dat.before_fetched _ 0 t (fetch2_0 t)]; rfl
theorem x_before1 (c : Dev nD) (t : Fin cfg2.N) (d : (cfg2.win 1).block.Idx → Elt F (cfg2.win 1).elt) : (datX V c).before 1 t d = xStg1 V t := by
  rw [Dat.before_fetched _ 1 t (fetch2_1 t)]; rfl
theorem x_before2 (c : Dev nD) (t : Fin cfg2.N) (ht : t.val ≠ 0) (d : (cfg2.win 2).block.Idx → Elt F (cfg2.win 2).elt) :
    (datX V c).before 2 t d = xAcc V t.val := by
  have hN : t.val < 12 := t.isLt
  rw [Dat.before_out_kept _ 2 rfl t ht (by rw [Bool.eq_false_iff, ne_eq, flush2_2]; dsimp only; omega) (fun _ => rfl) (fun _ _ => rfl)]
  show xAcc V (t.val - 1 + 1) = _
  rw [Nat.sub_add_cancel (Nat.one_le_iff_ne_zero.mpr ht)]

/-- The body's obligation: at the first point the reset case, later the accumulating one. -/
theorem x_body (c : Dev nD) : BodyObligation (datX V c) (defs₀ (F := F)) 𝒱₀ none Set.univ := fun t => by
  rw [bigSep_W2, bigSep_W2]
  rw [show (datX V c).Φ t.succ = (datX V c).Φ t.castSucc from rfl,
    show (datX V c).owesAt none t.succ = (datX V c).owesAt none t.castSucc from rfl]
  have key (d2) : iprop(owns (c : Thread nD τ) (st2_0 t) fullShare (xStg0 V t) ∗ owns (c : Thread nD τ) (st2_1 t) fullShare (xStg1 V t)
        ∗ owns (c : Thread nD τ) (st2_2 t) fullShare ((datX V c).before 2 t d2))
      ⊢ (wp frame (wpE (defs₀ (F := F)) Variants.none c none) Set.univ (bodyAt2 t) fun _ =>
        iprop(owns (c : Thread nD τ) (st2_0 t) fullShare (xStg0 V t) ∗ owns (c : Thread nD τ) (st2_1 t) fullShare (xStg1 V t)
          ∗ owns (c : Thread nD τ) (st2_2 t) fullShare (xAcc V (t.val + 1))) : sProp 𝕄) := by
    rw [xAcc_succ]
    exact x_run c (grid2.coords t) _ _ _ _ _ _ (xStg0 V t) (xStg1 V t) _ (xAcc V t.val) (fun h => by rw [(xCond_iff t).mp h]; rfl)
      (fun h => (x_before2 V c t (fun h' => h ((xCond_iff t).mpr h')) d2).symm)
  iintro ⟨HΦ, Howes, ⟨%d0, H0⟩, ⟨%d1, H1⟩, ⟨%d2, H2⟩⟩
  rw [x_before0, x_before1]
  iapply (wp_wand_r frame (wpE (defs₀ (F := F)) 𝒱₀ (c : Thread nD τ) none) Set.univ (Q := fun _ => iprop(owns (c : Thread nD τ) (st2_0 t) fullShare (xStg0 V t) ∗ owns (c : Thread nD τ) (st2_1 t) fullShare (xStg1 V t)
          ∗ owns (c : Thread nD τ) (st2_2 t) fullShare (xAcc V (t.val + 1)))))
  isplitl [H0 H1 H2]
  · iapply key
    isplitl [H0]; · iexact H0
    isplitl [H1]; · iexact H1
    iexact H2
  iintro %_ ⟨H0, H1, H2⟩
  isplitl [HΦ]; · iexact HΦ
  isplitl [Howes]; · iexact Howes
  isplitl [H0]; · iexact H0
  isplitl [H1]; · iexact H1
  iexact H2

end Cert.Proof.Seg
end
-- ==== Proof.RegCombine.lean ====
/-
  The last TensorCore call: the parts added up, divided by the graph sizes, and put through the two dense layers. Its body run once,
  its proof data and its body obligation.
-/
module

public import proofs.«01_k».proof.Proof.RegPe

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-- What the body leaves in the output's staging buffer, with the proof that it runs to its return from the ten buffers held. -/
noncomputable def cbRun (c : Dev nD) (f0 : Bf (F := F) c (stage3_0 0)) (f1 : Bf (F := F) c (stage3_1 0)) (f2 : Bf (F := F) c (stage3_2 0)) (f3 : Bf (F := F) c (stage3_3 0)) (f4 : Bf (F := F) c (stage3_4 0)) (f5 : Bf (F := F) c (stage3_5 0)) (f6 : Bf (F := F) c (stage3_6 0)) (f7 : Bf (F := F) c (stage3_7 0)) (f8 : Bf (F := F) c (stage3_8 0)) :
    { W : Bf (F := F) c (stage3_9 0) // ∀ (f9 : Bf (F := F) c (stage3_9 0)) (E : Set ℕ) (Q : PUnit → sProp 𝕄),
        iprop(pt c (stage3_0 0) f0 ∗ pt c (stage3_1 0) f1 ∗ pt c (stage3_2 0) f2 ∗ pt c (stage3_3 0) f3 ∗ pt c (stage3_4 0) f4 ∗ pt c (stage3_5 0) f5 ∗ pt c (stage3_6 0) f6 ∗ pt c (stage3_7 0) f7 ∗ pt c (stage3_8 0) f8 ∗ pt c (stage3_9 0) f9
            ∗ (iprop(pt c (stage3_0 0) f0 ∗ pt c (stage3_1 0) f1 ∗ pt c (stage3_2 0) f2 ∗ pt c (stage3_3 0) f3 ∗ pt c (stage3_4 0) f4 ∗ pt c (stage3_5 0) f5 ∗ pt c (stage3_6 0) f6 ∗ pt c (stage3_7 0) f7 ∗ pt c (stage3_8 0) f8 ∗ pt c (stage3_9 0) W) -∗ Q ⟨⟩))
          ⊢ wp frame (wpE (defs₀ (F := F)) Variants.none c none) E
              (cc3__tc_combine_body (stage3_0 0) (hstage3_0 0) (stage3_1 0) (hstage3_1 0) (stage3_2 0) (hstage3_2 0) (stage3_3 0) (hstage3_3 0) (stage3_4 0) (hstage3_4 0) (stage3_5 0) (hstage3_5 0) (stage3_6 0) (hstage3_6 0) (stage3_7 0) (hstage3_7 0) (stage3_8 0) (hstage3_8 0) (stage3_9 0) (hstage3_9 0)) Q } := by
  refine ⟨?_, fun f9 E Q => ?run⟩
  case run =>
    iintro ⟨H0, H1, H2, H3, H4, H5, H6, H7, H8, H9, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The proof data at an entry valuation -/

variable (V : Valuation τ sig (Elt F))

/-! The nine operands' blocks as the fetches stage them. -/
abbrev cbStg0 : (cfg3.win 0).block.Idx → Elt F (cfg3.win 0).elt := ((cfg3.win 0).blk t3_0).view.read (Elt F) (V (Proc.devRef .tc main_v0))
abbrev cbStg1 : (cfg3.win 1).block.Idx → Elt F (cfg3.win 1).elt := ((cfg3.win 1).blk t3_0).view.read (Elt F) (V (Proc.devRef .tc main_v5))
abbrev cbStg2 : (cfg3.win 2).block.Idx → Elt F (cfg3.win 2).elt := ((cfg3.win 2).blk t3_0).view.read (Elt F) (V (Proc.devRef .tc main_v3))
abbrev cbStg3 : (cfg3.win 3).block.Idx → Elt F (cfg3.win 3).elt := ((cfg3.win 3).blk t3_0).view.read (Elt F) (V (Proc.devRef .tc main_arg3))
abbrev cbStg4 : (cfg3.win 4).block.Idx → Elt F (cfg3.win 4).elt := ((cfg3.win 4).blk t3_0).view.read (Elt F) (V (Proc.devRef .tc main_v6))
abbrev cbStg5 : (cfg3.win 5).block.Idx → Elt F (cfg3.win 5).elt := ((cfg3.win 5).blk t3_0).view.read (Elt F) (V (Proc.devRef .tc main_arg5))
abbrev cbStg6 : (cfg3.win 6).block.Idx → Elt F (cfg3.win 6).elt := ((cfg3.win 6).blk t3_0).view.read (Elt F) (V (Proc.devRef .tc main_v7))
abbrev cbStg7 : (cfg3.win 7).block.Idx → Elt F (cfg3.win 7).elt := ((cfg3.win 7).blk t3_0).view.read (Elt F) (V (Proc.devRef .tc main_arg7))
abbrev cbStg8 : (cfg3.win 8).block.Idx → Elt F (cfg3.win 8).elt := ((cfg3.win 8).blk t3_0).view.read (Elt F) (V (Proc.devRef .tc main_v8))

/-- The run at the staged blocks. -/
abbrev cbOut (c : Dev nD) := cbRun (F := F) c (cbStg0 V) (cbStg1 V) (cbStg2 V) (cbStg3 V) (cbStg4 V) (cbStg5 V) (cbStg6 V) (cbStg7 V) (cbStg8 V)

/-- The proof data of the last TensorCore call from the valuation `V`. -/
def datCb (c : Dev nD) : Dat τ (Elt F) (HIx 1) ℕ UU ℕ cfg3 c where
  A w := V (Proc.devRef .tc (Pipeline.arrRef spec3 w))
  after w _ := match w with
    | ⟨0, _⟩ => cbStg0 V
    | ⟨1, _⟩ => cbStg1 V
    | ⟨2, _⟩ => cbStg2 V
    | ⟨3, _⟩ => cbStg3 V
    | ⟨4, _⟩ => cbStg4 V
    | ⟨5, _⟩ => cbStg5 V
    | ⟨6, _⟩ => cbStg6 V
    | ⟨7, _⟩ => cbStg7 V
    | ⟨8, _⟩ => cbStg8 V
    | ⟨9, _⟩ => (cbOut V c).1
  Φ _ := Pipeline.scopedRest (Ix := HIx 1) (Name := ℕ) (U := UU) (Lvl := ℕ) (Val := Elt F) cfg3.spec c
  q _ := fullShare
  owed _ := 0
  recorded _ := below (F := F) c

theorem cb_before0 (c : Dev nD) (d : (cfg3.win 0).block.Idx → Elt F (cfg3.win 0).elt) : (datCb V c).before 0 t3_0 d = cbStg0 V := by
  unfold Dat.before; rw [if_pos (by decide)]; rfl
theorem cb_before1 (c : Dev nD) (d : (cfg3.win 1).block.Idx → Elt F (cfg3.win 1).elt) : (datCb V c).before 1 t3_0 d = cbStg1 V := by
  unfold Dat.before; rw [if_pos (by decide)]; rfl
theorem cb_before2 (c : Dev nD) (d : (cfg3.win 2).block.Idx → Elt F (cfg3.win 2).elt) : (datCb V c).before 2 t3_0 d = cbStg2 V := by
  unfold Dat.before; rw [if_pos (by decide)]; rfl
theorem cb_before3 (c : Dev nD) (d : (cfg3.win 3).block.Idx → Elt F (cfg3.win 3).elt) : (datCb V c).before 3 t3_0 d = cbStg3 V := by
  unfold Dat.before; rw [if_pos (by decide)]; rfl
theorem cb_before4 (c : Dev nD) (d : (cfg3.win 4).block.Idx → Elt F (cfg3.win 4).elt) : (datCb V c).before 4 t3_0 d = cbStg4 V := by
  unfold Dat.before; rw [if_pos (by decide)]; rfl
theorem cb_before5 (c : Dev nD) (d : (cfg3.win 5).block.Idx → Elt F (cfg3.win 5).elt) : (datCb V c).before 5 t3_0 d = cbStg5 V := by
  unfold Dat.before; rw [if_pos (by decide)]; rfl
theorem cb_before6 (c : Dev nD) (d : (cfg3.win 6).block.Idx → Elt F (cfg3.win 6).elt) : (datCb V c).before 6 t3_0 d = cbStg6 V := by
  unfold Dat.before; rw [if_pos (by decide)]; rfl
theorem cb_before7 (c : Dev nD) (d : (cfg3.win 7).block.Idx → Elt F (cfg3.win 7).elt) : (datCb V c).before 7 t3_0 d = cbStg7 V := by
  unfold Dat.before; rw [if_pos (by decide)]; rfl
theorem cb_before8 (c : Dev nD) (d : (cfg3.win 8).block.Idx → Elt F (cfg3.win 8).elt) : (datCb V c).before 8 t3_0 d = cbStg8 V := by
  unfold Dat.before; rw [if_pos (by decide)]; rfl

/-- The body's obligation: the staging buffers taken apart, the run applied, its end reassembled. -/
theorem cb_body (c : Dev nD) : BodyObligation (datCb V c) (defs₀ (F := F)) 𝒱₀ none Set.univ := fun t => by
  obtain rfl := fin_N3 t
  rw [bigSep_W3, bigSep_W3]
  simp only [owns_whole_eq]
  rw [show (datCb V c).Φ t3_0.succ = (datCb V c).Φ t3_0.castSucc from rfl,
    show (datCb V c).owesAt none t3_0.succ = (datCb V c).owesAt none t3_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩⟩
  rw [cb_before0] at hf0
  rw [cb_before1] at hf1
  rw [cb_before2] at hf2
  rw [cb_before3] at hf3
  rw [cb_before4] at hf4
  rw [cb_before5] at hf5
  rw [cb_before6] at hf6
  rw [cb_before7] at hf7
  rw [cb_before8] at hf8
  subst hf0 hf1 hf2 hf3 hf4 hf5 hf6 hf7 hf8
  iapply ((cbOut V c).2 f9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexists _; isplitr; swap; (· iexact H0); ipureintro; dsimp only [datCb]
  isplitl [H1]; · iexists _; isplitr; swap; (· iexact H1); ipureintro; dsimp only [datCb]
  isplitl [H2]; · iexists _; isplitr; swap; (· iexact H2); ipureintro; dsimp only [datCb]
  isplitl [H3]; · iexists _; isplitr; swap; (· iexact H3); ipureintro; dsimp only [datCb]
  isplitl [H4]; · iexists _; isplitr; swap; (· iexact H4); ipureintro; dsimp only [datCb]
  isplitl [H5]; · iexists _; isplitr; swap; (· iexact H5); ipureintro; dsimp only [datCb]
  isplitl [H6]; · iexists _; isplitr; swap; (· iexact H6); ipureintro; dsimp only [datCb]
  isplitl [H7]; · iexists _; isplitr; swap; (· iexact H7); ipureintro; dsimp only [datCb]
  isplitl [H8]; · iexists _; isplitr; swap; (· iexact H8); ipureintro; dsimp only [datCb]
  iexists _; isplitr; swap; (· iexact H9); ipureintro; dsimp only [datCb]

end Cert.Proof.Seg
end
-- ==== Proof.Main.lean ====
/-
  The host program on the TensorCore: the SparseCore call, the host operations and the three TensorCore calls, run in order from the
  launch memory; then the launch itself.
-/
module

public import proofs.«01_k».proof.Proof.Task
public import proofs.«01_k».proof.Proof.RegX
public import proofs.«01_k».proof.Proof.RegCombine

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The unscoped buffers' contents, step by step -/

abbrev dr (b : Ref sig .tc) : DevRef τ sig := Proc.devRef .tc b

abbrev op1 : HloOp τ sig (Elt F) := StableHlo.unary main_arg1 main_v1 ((transpose S8x100000 [1, 0] · transposes_S100000x8_S8x100000_1_0) : (⟨S100000x8, .f32⟩ : BufTy).Contents (Elt F) → (⟨S8x100000, .f32⟩ : BufTy).Contents (Elt F))
abbrev op2 : HloOp τ sig (Elt F) := StableHlo.reshape main_arg2 main_v2 (rfl : (.i32 : EltTy) = .i32) shapeCasts_S100000_S1x100000
abbrev op4 : HloOp τ sig (Elt F) := StableHlo.reshape main_arg2 main_v4 (rfl : (.i32 : EltTy) = .i32) shapeCasts_S100000_S50x1x2000
abbrev op6 : HloOp τ sig (Elt F) := StableHlo.reshape main_arg4 main_v6 (rfl : (.f32 : EltTy) = .f32) shapeCasts_S128_S1x128
abbrev op7 : HloOp τ sig (Elt F) := StableHlo.reshape main_arg6 main_v7 (rfl : (.f32 : EltTy) = .f32) shapeCasts_S128_S1x128
abbrev op8 : HloOp τ sig (Elt F) := StableHlo.reshape main_arg8 main_v8 (rfl : (.f32 : EltTy) = .f32) shapeCasts_S16_S1x16

/-- At the launch; after the SparseCore call; after the two host operations before the first TensorCore call. -/
def W0 (d : Dev nD) : Valuation τ sig (Elt F) := fun b => m (d, b)
def W1 (d : Dev nD) : Valuation τ sig (Elt F) :=
  Function.update (W0 m d) (dr main_v0) (partsV (m (xLoc d)) (m (bLoc d)) : Buf (Elt F) (oLoc d))
def W2 (d : Dev nD) : Valuation τ sig (Elt F) := op2.result (op1.result (W1 m d))
/-- After the first TensorCore call, then the reshape before the second. -/
def W3 (d : Dev nD) : Valuation τ sig (Elt F) := Pipeline.afterRegion (datPe (W2 m d) d) (W2 m d)
def W4 (d : Dev nD) : Valuation τ sig (Elt F) := op4.result (W3 m d)
/-- After the second TensorCore call, then the three reshapes before the third. -/
def W5 (d : Dev nD) : Valuation τ sig (Elt F) := Pipeline.afterRegion (datX (W4 m d) d) (W4 m d)
def W6 (d : Dev nD) : Valuation τ sig (Elt F) := op8.result (op7.result (op6.result (W5 m d)))
/-- At the end. -/
def W7 (d : Dev nD) : Valuation τ sig (Elt F) := Pipeline.afterRegion (datCb (W6 m d) d) (W6 m d)

/-- The proof data of the three pipelines. -/
def pdats : Dats F := fun p => match p with
  | ⟨0, _⟩ => fun c => datPe (W2 m c) c
  | ⟨1, _⟩ => fun c => datX (W4 m c) c
  | ⟨2, _⟩ => fun c => datCb (W6 m c) c

/-! ## The three regions -/

omit [FloatOps F] in
theorem share_full {Λ : Labels} {cfg : Pipeline.Cfg sig Λ} {c : Dev nD} (dat : Dat τ (Elt F) (HIx 1) ℕ UU ℕ cfg c) (h : ∀ w, dat.q w = fullShare)
    (w : Fin cfg.W) : dat.share w = fullShare := by
  unfold Dat.share; split
  · rfl
  · exact h w

/-- What no window stages, in the pipeline as its launch takes it. -/
theorem rest_pin (p : Fin 3) (c : Dev nD) : (Pipeline.scopedRest (Ix := HIx 1) (Name := ℕ) (U := UU) (Lvl := ℕ) (Val := Elt F) (Pipeline.pin (pcfgs (F := F)) adm p).spec c : sProp 𝕄)
    = Pipeline.scopedRest (cfgs p).spec c := rfl

def regPe : Pipeline.RegionSeg (pcfgs (F := F)) adm (pdats m) none (defs₀ (F := F)) 𝒱₀ (K (F := F)).L (K (F := F)).lev 0 :=
  region (pdats m) 0 launch1.toP (fun c => pe_body (W2 m c) c) (fun _ _ => rfl) (fun _ _ => rfl) (fun c => share_full (datPe (W2 m c) c) fun _ => rfl)
    (fun c t => (show (datPe (W2 m c) c).Φ t = Pipeline.scopedRest (cfgs 0).spec c from rfl).trans (rest_pin 0 c).symm) (W2 m) (fun _ _ => rfl)
def regX : Pipeline.RegionSeg (pcfgs (F := F)) adm (pdats m) none (defs₀ (F := F)) 𝒱₀ (K (F := F)).L (K (F := F)).lev 1 :=
  region (pdats m) 1 launch2.toP (fun c => x_body (W4 m c) c) (fun _ _ => rfl) (fun _ _ => rfl) (fun c => share_full (datX (W4 m c) c) fun _ => rfl)
    (fun c t => (show (datX (W4 m c) c).Φ t = Pipeline.scopedRest (cfgs 1).spec c from rfl).trans (rest_pin 1 c).symm) (W4 m) (fun _ _ => rfl)
def regCb : Pipeline.RegionSeg (pcfgs (F := F)) adm (pdats m) none (defs₀ (F := F)) 𝒱₀ (K (F := F)).L (K (F := F)).lev 2 :=
  region (pdats m) 2 launch3.toP (fun c => cb_body (W6 m c) c) (fun _ _ => rfl) (fun _ _ => rfl) (fun c => share_full (datCb (W6 m c) c) fun _ => rfl)
    (fun c t => (show (datCb (W6 m c) c).Φ t = Pipeline.scopedRest (cfgs 2).spec c from rfl).trans (rest_pin 2 c).symm) (W6 m) (fun _ _ => rfl)

/-! ## What the tiles are given and bring back -/

/-- The grid's tiles are its SparseCores by their subcores. -/
def tileEquiv : Fin 2 × Fin 16 ≃ Fin 32 where
  toFun p := wOf p.1 p.2
  invFun w := (⟨w.val / 16, by omega⟩, ⟨w.val % 16, by omega⟩)
  left_inv p := by
    obtain ⟨c, i⟩ := p
    refine Prod.ext (Fin.ext ?_) (Fin.ext ?_) <;> simp only [wOf] <;> omega
  right_inv w := Fin.ext (by simp only [wOf]; omega)

omit [FloatOps F] in
theorem bigSep_tiles (Φ : Fin 32 → sProp 𝕄) :
    (bigSep Finset.univ fun c : Fin 2 => bigSep Finset.univ fun i : Fin 16 => Φ (wOf c i)) = bigSep Finset.univ Φ := by
  rw [← SparseCore.bigSep_product Finset.univ Finset.univ (fun p : Fin 2 × Fin 16 => Φ (wOf p.1 p.2)), Finset.univ_product_univ]
  exact (bigSep_univ_equiv tileEquiv Φ).symm

omit [FloatOps F] in
/-- The tiles' shares and slabs together are the three arrays whole. -/
theorem tiles_eq (d : Dev nD) (X : Buf (Elt F) (xLoc d)) (B : Buf (Elt F) (bLoc d)) (O : Buf (Elt F) (oLoc d)) :
    (bigSep Finset.univ fun w : Fin 32 => iprop((xLoc d ↦{shr w} X) ∗ (bLoc d ↦{shr w} B) ∗ (oLoc d ↦[slabSet w]{fullShare} O)) : sProp 𝕄)
      = iprop((xLoc d ↦{fullShare} X) ∗ (bLoc d ↦{fullShare} B) ∗ (oLoc d ↦{fullShare} O)) := by
  rw [bigSep_sep', bigSep_sep']
  congr 1
  · exact (ShareLeaves.pointsTo_leaves Finset.univ X 5 fullShare).symm
  congr 1
  · exact (ShareLeaves.pointsTo_leaves Finset.univ B 5 fullShare).symm
  · have hs : (fun w : Fin 32 => slabSet w) = fun w => (slab w).set := by
      funext w
      show (oV.view.slice (slab w)).set = _
      rw [View.set_slice]; exact Finset.map_refl
    have hs' : (Finset.univ.biUnion fun w : Fin 32 => (slabSet w : Finset (Idx (oLoc d)))) = Finset.univ :=
      (congrArg (fun f : Fin 32 → Finset S32x512x128.Idx => Finset.univ.biUnion f) hs).trans (Rect.biUnion_part odiv)
    have hd : ∀ t ∈ (Finset.univ : Finset (Fin 32)), ∀ t' ∈ (Finset.univ : Finset (Fin 32)), t ≠ t' → Disjoint (slabSet t) (slabSet t') := fun t _ t' _ h => by
      rw [congrFun hs t, congrFun hs t']; exact Rect.part_disjoint odiv h
    have h := pointsTo_biUnion (nD := nD) (τ := τ) (sig := sig) (Ix := HIx 1) (Val := Elt F) (Name := ℕ) (U := UU) (Lvl := ℕ) (ℓ := oLoc d) (q := fullShare)
      (f := O) Finset.univ (fun w : Fin 32 => (slabSet w : Finset (Idx (oLoc d)))) hd
    rw [hs'] at h
    exact h.symm

theorem st0_eq (d : Dev nD) : (bigSep Finset.univ fun c : Fin ((K (F := F)).nCore 0) => (P m).st 0 d c)
    = iprop((xLoc d ↦{fullShare} m (xLoc d)) ∗ (bLoc d ↦{fullShare} m (bLoc d)) ∗ (oLoc d ↦{fullShare} m (oLoc d))) :=
  (bigSep_tiles (goP m d)).trans (tiles_eq d _ _ _)
theorem dn0_eq (d : Dev nD) : (bigSep Finset.univ fun c : Fin ((K (F := F)).nCore 0) => (P m).dn 0 d c)
    = iprop((xLoc d ↦{fullShare} m (xLoc d)) ∗ (bLoc d ↦{fullShare} m (bLoc d)) ∗ (oLoc d ↦{fullShare} (partsV (m (xLoc d)) (m (bLoc d)) : Buf (Elt F) (oLoc d)))) :=
  (bigSep_tiles (tdP m d)).trans (tiles_eq d _ _ _)

/-- The call's three arrays, and the unscoped buffers split at them. -/
def S3 : Finset (DevRef τ sig) := {dr main_arg0, dr main_arg2, dr main_v0}
theorem S3_sub : S3 ⊆ Pipeline.ucRefs τ sig := by decide

omit [FloatOps F] in
theorem held_S3 (d : Dev nD) (W : Valuation τ sig (Elt F)) : (StableHlo.held (SparseCore.T d) S3 W : sProp 𝕄)
    = iprop((xLoc d ↦{fullShare} W (dr main_arg0)) ∗ (bLoc d ↦{fullShare} W (dr main_arg2)) ∗ (oLoc d ↦{fullShare} W (dr main_v0))) := by
  unfold StableHlo.held S3
  rw [SparseCore.bigSep_insert' (by decide), SparseCore.bigSep_insert' (by decide), bigSep_singleton]

theorem held_W0 (d : Dev nD) : (StableHlo.held (SparseCore.T d) (Pipeline.ucRefs τ sig) (W0 m d) : sProp 𝕄)
    = iprop(((xLoc d ↦{fullShare} m (xLoc d)) ∗ (bLoc d ↦{fullShare} m (bLoc d)) ∗ (oLoc d ↦{fullShare} m (oLoc d)))
      ∗ StableHlo.held (SparseCore.T d) (Pipeline.ucRefs τ sig \ S3) (W0 m d)) := by
  rw [StableHlo.held_sub_split (SparseCore.T d) S3_sub, held_S3]; rfl

theorem held_W1 (d : Dev nD) : (StableHlo.held (SparseCore.T d) (Pipeline.ucRefs τ sig) (W1 m d) : sProp 𝕄)
    = iprop(((xLoc d ↦{fullShare} m (xLoc d)) ∗ (bLoc d ↦{fullShare} m (bLoc d)) ∗ (oLoc d ↦{fullShare} (partsV (m (xLoc d)) (m (bLoc d)) : Buf (Elt F) (oLoc d))))
      ∗ StableHlo.held (SparseCore.T d) (Pipeline.ucRefs τ sig \ S3) (W0 m d)) := by
  rw [StableHlo.held_sub_split (SparseCore.T d) S3_sub, held_S3]
  rw [StableHlo.held_congr (SparseCore.T d) (V := W1 m d) (V' := W0 m d) (fun b hb => Function.update_of_ne
    (fun e => (Finset.mem_sdiff.mp hb).2 (by rw [e]; decide)) _ _)]
  unfold W1
  rw [Function.update_self, Function.update_of_ne (by decide), Function.update_of_ne (by decide)]
  rfl

/-! ## The ghost state of the launch -/

theorem pin_inj : Function.Injective (Pipeline.cellOf (nD := nD) (τ := τ) (Pipeline.pin (pcfgs (F := F)) adm)) := cellOf_inj

/-- The initial ghost element: the handshakes' rounds, the pipelines' rounds, no transfer counted. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What device `d` is dealt for its three pipelines. -/
abbrev G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) adm) EP pin_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const (M := 𝕄) (Finset.univ : Finset (Thread nD τ))).symm)
  iempintro

/-! ## @main on the TensorCore -/

/-- One TensorCore call at the head of the host program. -/
theorem wp_region [∀ e, Nonempty (Elt F e)] (κ : GSem nD τ sig → ℕ) (d : Dev nD) (p : Fin 3)
    (R : Pipeline.RegionSeg (pcfgs (F := F)) adm (pdats m) none (defs₀ (F := F)) 𝒱₀ (K (F := F)).L (K (F := F)).lev p) (Q : PUnit → sProp 𝕄) :
    iprop((K (F := F)).ctx EH (P m) κ (K (F := F)).lev ∗ boundary (SparseCore.T d) ∗ R.pre d
        ∗ Pipeline.cellsGhost (Pipeline.pin (pcfgs (F := F)) adm) EP p d ∗ Pipeline.toksInit (Pipeline.pin (pcfgs (F := F)) adm) EP p d
        ∗ ((boundary (SparseCore.T d) ∗ R.post d) -∗ Q ⟨⟩))
      ⊢ wp frame (wpE ((K (F := F)).defs (D (F := F))) 𝒱 (SparseCore.T d) none) Set.univ
          (Prog.lift (.customCall (SparseCore.inner (Pipeline.entry p)) ())) Q := by
  iintro ⟨Hctx, Hb, Hpre, Hg, Ht, Hk⟩
  ihave Hlev := (SparseCore.Cfg.ctx_levAts κ) $$ Hctx
  iapply ((K (F := F)).wp_liftProg (D (F := F)) 𝒱 (SparseCore.T d) Set.univ none (.op (.customCall (Pipeline.entry p) ()) .ret) Q)
  iapply (Pipeline.RegionSeg.wp (pcfgs (F := F)) adm (pdats m) none pin_inj EP (defs₀ (F := F)) 𝒱₀ (K (F := F)).L (K (F := F)).lev R d none (fun _ h => nomatch h) .ret Q)
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

abbrev FIN (d : Dev nD) : sProp 𝕄 := StableHlo.held (SparseCore.T d) (Pipeline.ucRefs τ sig) (W7 m d)

theorem bufs_sub1 : (op1 (F := F)).bufs ⊆ Pipeline.ucRefs τ sig := Pipeline.sub_ucRefs _ (StableHlo.unary_bufs_sub ..)
theorem bufs_sub2 : (op2 (F := F)).bufs ⊆ Pipeline.ucRefs τ sig := Pipeline.sub_ucRefs _ (StableHlo.reshape_bufs_sub ..)
theorem bufs_sub4 : (op4 (F := F)).bufs ⊆ Pipeline.ucRefs τ sig := Pipeline.sub_ucRefs _ (StableHlo.reshape_bufs_sub ..)
theorem bufs_sub6 : (op6 (F := F)).bufs ⊆ Pipeline.ucRefs τ sig := Pipeline.sub_ucRefs _ (StableHlo.reshape_bufs_sub ..)
theorem bufs_sub7 : (op7 (F := F)).bufs ⊆ Pipeline.ucRefs τ sig := Pipeline.sub_ucRefs _ (StableHlo.reshape_bufs_sub ..)
theorem bufs_sub8 : (op8 (F := F)).bufs ⊆ Pipeline.ucRefs τ sig := Pipeline.sub_ucRefs _ (StableHlo.reshape_bufs_sub ..)

/-- What the core owes after the call, as the segments hold it, and back. -/
theorem pre_of (d : Dev nD) (W : Valuation τ sig (Elt F)) :
    iprop(StableHlo.held (SparseCore.T d) (Pipeline.ucRefs τ sig) W
        ∗ (∃ W', ⌜(K (F := F)).WBelow (SparseCore.T d) W' 8⌝ ∗ owes (SparseCore.T d) ((K (F := F)).Otc d (0 + 1)) W'))
      ⊢ (held d W : sProp 𝕄) := by
  unfold held owesB
  rw [show (K (F := F)).Otc d (0 + 1) = 0 from (K (F := F)).Otc_end d le_rfl]
theorem owes_of (d : Dev nD) :
    (owesB d : sProp 𝕄)
      ⊢ iprop(∃ W', ⌜(K (F := F)).WBelow (SparseCore.T d) W' 8⌝ ∗ owes (SparseCore.T d) ((K (F := F)).Otc d 1) W') := by
  unfold owesB
  rw [show (K (F := F)).Otc d 1 = 0 from (K (F := F)).Otc_end d le_rfl]

theorem prePe (d : Dev nD) : (regPe m).pre d = held d (W2 m d) := rfl
theorem postPe (d : Dev nD) : (regPe m).post d = iprop(StableHlo.held (SparseCore.T d) (Pipeline.ucRefs τ sig) (W3 m d) ∗ owesB d) := rfl
theorem postX (d : Dev nD) : (regX m).post d = iprop(StableHlo.held (SparseCore.T d) (Pipeline.ucRefs τ sig) (W5 m d) ∗ owesB d) := rfl
theorem postCb (d : Dev nD) : (regCb m).post d = iprop(StableHlo.held (SparseCore.T d) (Pipeline.ucRefs τ sig) (W7 m d) ∗ owesB d) := rfl
theorem preX (d : Dev nD) : (regX m).pre d = iprop(StableHlo.held (SparseCore.T d) (Pipeline.ucRefs τ sig) (W4 m d) ∗ owesB d) := rfl
theorem preCb (d : Dev nD) : (regCb m).pre d = iprop(StableHlo.held (SparseCore.T d) (Pipeline.ucRefs τ sig) (W6 m d) ∗ owesB d) := rfl

/-- @main on device `d`'s TensorCore: the SparseCore call, then the host operations and the TensorCore calls in order. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp 𝕄) = StableHlo.held (SparseCore.T d) (Pipeline.ucRefs τ sig) (W0 m d)
    from Pipeline.unscopedBufs_held d (W0 m d), held_W0, bigSep_W1, bigSep_W1]
  simp only [main, wp_bind, wp_pure]
  iintro ⟨#Hctx, Hst, ⟨Hb, ⟨Hcall, Hrest⟩, Hts, -⟩, ⟨Hg0, Hg1, Hg2⟩, ⟨Ht0, Ht1, Ht2⟩⟩
  iapply ((K (F := F)).wp_run (D (F := F)) 𝒱 (EH := EH) (P := P m) κ d 0)
  isplitr; · iexact Hctx
  isplitl [Hst]; · iexact Hst
  isplitl [Hcall]
  · rw [st0_eq]; iexact Hcall
  iintro ⟨Hst, Hdn⟩
  ihave Hcall := (Entails.of_eq (dn0_eq m d)) $$ Hdn
  ihave Hheld := (Entails.of_eq (held_W1 m d).symm) $$ [Hcall Hrest]
  · isplitl [Hcall]; · iexact Hcall
    iexact Hrest
  -- the two host operations before the first call
  iapply (StableHlo.wp_hlo_within 𝒱 (SparseCore.T d) none Set.univ (op := op1) bufs_sub1 (V := W1 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := op2) bufs_sub2) $$ [Hb Hheld]
  · isplitl [Hb]; · iexact Hb
    iexact Hheld
  iintro ⟨Hb, Hheld⟩
  rw [wp_ret]; imodintro
  unfold SparseCore.Cfg.tcSt
  icases Hst with ⟨HO, Hst⟩
  -- the first call
  iapply (wp_region m κ d 0 (regPe m))
  isplitr; · iexact Hctx
  isplitl [Hb]; · iexact Hb
  isplitl [Hheld HO]
  · iapply (Entails.of_eq (prePe m d).symm)
    iapply (pre_of d (W2 m d)) $$ [Hheld HO]
    isplitl [Hheld]; · iexact Hheld
    iexact HO
  isplitl [Hg0]; · iexact Hg0
  isplitl [Ht0]; · iexact Ht0
  iintro ⟨Hb, Hpost⟩
  ihave Hpost := (Entails.of_eq (postPe m d)) $$ Hpost
  icases Hpost with ⟨Hheld, HO⟩
  iapply (StableHlo.wp_hlo_within 𝒱 (SparseCore.T d) none Set.univ (op := op4) bufs_sub4 (V := W3 m d)) $$ [Hb Hheld]
  · isplitl [Hb]; · iexact Hb
    iexact Hheld
  iintro ⟨Hb, Hheld⟩
  rw [wp_ret]; imodintro
  -- the second
  iapply (wp_region m κ d 1 (regX m))
  isplitr; · iexact Hctx
  isplitl [Hb]; · iexact Hb
  isplitl [Hheld HO]
  · rw [preX]
    isplitl [Hheld]; · iexact Hheld
    iexact HO
  isplitl [Hg1]; · iexact Hg1
  isplitl [Ht1]; · iexact Ht1
  iintro ⟨Hb, Hpost⟩
  ihave Hpost := (Entails.of_eq (postX m d)) $$ Hpost
  icases Hpost with ⟨Hheld, HO⟩
  iapply (StableHlo.wp_hlo_within 𝒱 (SparseCore.T d) none Set.univ (op := op6) bufs_sub6 (V := W5 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := op7) bufs_sub7) $$ [Hb Hheld]
  · isplitl [Hb]; · iexact Hb
    iexact Hheld
  iintro ⟨Hb, Hheld⟩
  rw [wp_ret]; imodintro
  iapply (StableHlo.wp_hlo_within 𝒱 (SparseCore.T d) none Set.univ (op := op8) bufs_sub8) $$ [Hb Hheld]
  · isplitl [Hb]; · iexact Hb
    iexact Hheld
  iintro ⟨Hb, Hheld⟩
  rw [wp_ret]; imodintro
  -- the third
  iapply (wp_region m κ d 2 (regCb m))
  isplitr; · iexact Hctx
  isplitl [Hb]; · iexact Hb
  isplitl [Hheld HO]
  · rw [preCb]
    isplitl [Hheld]; · iexact Hheld
    iexact HO
  isplitl [Hg2]; · iexact Hg2
  isplitl [Ht2]; · iexact Ht2
  iintro ⟨Hb, Hpost⟩
  ihave Hpost := (Entails.of_eq (postCb m d)) $$ Hpost
  icases Hpost with ⟨Hheld, HO⟩
  imodintro
  isplitl [HO Hst]
  · isplitl [HO]
    · iapply (owes_of d) $$ HO
    iexact Hst
  isplitl [Hheld]; · iexact Hheld
  isplitl [Hb]; · iexact Hb
  iexact Hts

/-! ## The launch -/

/-- What the end memory holds on device `d`: every unscoped buffer at the last valuation. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  unfold FIN StableHlo.held
  iintro ⟨H, HSI⟩
  iapply (SI_pointsTo_bufs_agree (qs := fun _ => fullShare) (Pipeline.ucRefs τ sig)) $$ [HSI H]
  isplitl [HSI]; · iexact HSI
  iexact H

/-- Every execution ends with the unscoped buffers at the last valuation and every semaphore at zero. -/
def QC : PUnit × MemSt nD τ sig (Elt F) → Prop := fun r =>
  (∀ d : Dev nD, ∀ b ∈ Pipeline.ucRefs τ sig, r.2.mem (d, b) = W7 m d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (BIBase.Entails.trans Idealize.SL.BI.Laws.sep_elim_left (hu₀ m)) (hmain m ρ) (fq m) (hfin m) (QC m) (fun _ h hz => ⟨h, hz⟩)

/-! ## What each step leaves alone -/

theorem W2_keep (d : Dev nD) (r : Ref sig .tc) (h0 : r ≠ main_v0) (h1 : r ≠ main_v1) (h2 : r ≠ main_v2) :
    W2 m d (dr r) = m (d, dr r) := by
  unfold W2 W1
  rw [StableHlo.reshape_result_ne _ _ _ _ _ _ _ h2, StableHlo.unary_result_ne _ _ _ _ _ _ h1,
    Function.update_of_ne (fun e => h0 (Proc.devRef_injective _ e))]
  rfl
theorem W3_keep (d : Dev nD) (r : Ref sig .tc) (h : r ≠ main_v3) : W3 m d (dr r) = W2 m d (dr r) :=
  Pipeline.afterRegion_keeps _ _ winFacts1.arr_inj (fun _ => rfl) r (fun
    | 0 => fun _ => rfl | 1 => fun _ => rfl | 2 => fun e => absurd e.symm h | ⟨_ + 3, h⟩ => absurd h (Nat.not_lt.2 (Nat.le_add_left _ _)))
theorem W4_keep (d : Dev nD) (r : Ref sig .tc) (h : r ≠ main_v4) : W4 m d (dr r) = W3 m d (dr r) :=
  StableHlo.reshape_result_ne _ _ _ _ _ _ _ h
theorem W5_keep (d : Dev nD) (r : Ref sig .tc) (h : r ≠ main_v5) : W5 m d (dr r) = W4 m d (dr r) :=
  Pipeline.afterRegion_keeps _ _ winFacts2.arr_inj (fun _ => rfl) r (fun
    | 0 => fun _ => rfl | 1 => fun _ => rfl | 2 => fun e => absurd e.symm h | ⟨_ + 3, h⟩ => absurd h (Nat.not_lt.2 (Nat.le_add_left _ _)))
theorem W6_keep (d : Dev nD) (r : Ref sig .tc) (h6 : r ≠ main_v6) (h7 : r ≠ main_v7) (h8 : r ≠ main_v8) : W6 m d (dr r) = W5 m d (dr r) := by
  unfold W6
  rw [StableHlo.reshape_result_ne _ _ _ _ _ _ _ h8, StableHlo.reshape_result_ne _ _ _ _ _ _ _ h7, StableHlo.reshape_result_ne _ _ _ _ _ _ _ h6]
theorem W7_keep (d : Dev nD) (r : Ref sig .tc) (h : r ≠ main_v9) : W7 m d (dr r) = W6 m d (dr r) :=
  Pipeline.afterRegion_keeps _ _ winFacts3.arr_inj (fun _ => rfl) r (fun
    | 0 => fun _ => rfl | 1 => fun _ => rfl | 2 => fun _ => rfl | 3 => fun _ => rfl | 4 => fun _ => rfl | 5 => fun _ => rfl | 6 => fun _ => rfl
    | 7 => fun _ => rfl | 8 => fun _ => rfl | 9 => fun e => absurd e.symm h | ⟨_ + 10, h⟩ => absurd h (Nat.not_lt.2 (Nat.le_add_left _ _)))

/-- The results and intermediates of the host program. -/
def written : List (Ref sig .tc) := [main_v0, main_v1, main_v2, main_v3, main_v4, main_v5, main_v6, main_v7, main_v8, main_v9]

/-- What is not written ends as it began. -/
theorem W7_arg (d : Dev nD) (r : Ref sig .tc) (h : r ∉ written) : W7 m d (dr r) = m (d, dr r) := by
  simp only [written, List.mem_cons, List.not_mem_nil, _root_.or_false, not_or] at h
  obtain ⟨h0, h1, h2, h3, h4, h5, h6, h7, h8, h9⟩ := h
  rw [W7_keep m d r h9, W6_keep m d r h6 h7 h8, W5_keep m d r h5, W4_keep m d r h4, W3_keep m d r h3, W2_keep m d r h0 h1 h2]

/-- An execution's end, read at an argument. -/
theorem QC_arg {r : PUnit × MemSt nD τ sig (Elt F)} (h : QC m r) (c : Dev nD) (b : Ref sig .tc) (hb : dr b ∈ Pipeline.ucRefs τ sig) (hw : b ∉ written) :
    r.2.mem ((c.tc : Thread nD τ).loc b) = m ((c.tc : Thread nD τ).loc b) := (h.1 c _ hb).trans (W7_arg m c b hw)

/-- An execution's end leaves the nine arguments as they were. -/
theorem QC_args {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨QC_arg m h c _ (by decide) (by decide), QC_arg m h c _ (by decide) (by decide), QC_arg m h c _ (by decide) (by decide),
    QC_arg m h c _ (by decide) (by decide), QC_arg m h c _ (by decide) (by decide), QC_arg m h c _ (by decide) (by decide),
    QC_arg m h c _ (by decide) (by decide), QC_arg m h c _ (by decide) (by decide), QC_arg m h c _ (by decide) (by decide)⟩

end Cert.Proof.Seg
end
-- ==== Proof.Frames.lean ====
/-
  The frames of the kernel, as printed and idealized: every execution ends with the arguments as they were and every
  semaphore at zero, whenever the batch ids lie in the range the input generator gives them.
-/
module

public import proofs.«01_k».proof.Proof.Main
public import proofs.«01_k».proof.Proof.Gen.Kernel
public import proofs.«01_k».proof.Proof.Gen.Pre_batch_in_range
public import proofs.«01_k».proof.Defs

@[expose] public section

noncomputable section

namespace Cert.Proof.Seg

open Idealize.ShloMosaic Idealize.SL.Sem

/-- The bitwise and of two truth words is the truth word of the conjunction. -/
theorem andi_ofBool (p q : Bool) : IntOp.andi (BitVec.ofBool p) (BitVec.ofBool q) = BitVec.ofBool (p && q) := by
  cases p <;> cases q <;> decide
/-- A truth word is one when the truth it holds is. -/
theorem ofBool_eq_one (p : Bool) : (BitVec.ofBool p = 1#1) ↔ p = true := by cases p <;> decide

/-- A word that is at least 0 and below 512 as a signed number is its own value, below 512. -/
theorem word_range (v : BitVec 32) (e : IntOp.andi (IntOp.cmpi .sge v 0#32) (IntOp.cmpi .slt v 512#32) = 1#1) : v.toNat < 512 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The range precondition of the printed kernel gives every batch id below 512. -/
theorem ok_of_pre (m : (ℓ : Loc Cert.Kernel.nD Cert.Kernel.τ Cert.Kernel.sig) → Buf (Elt Bits) ℓ) (h : Cert.Pre_Kernel m) :
    PreOK (F := Bits) m := by
  intro d j
  have e := congrFun (h d) j
  simp only [Cert.Pre_batch_in_range.fn, andi, cmpi, broadcastInDim, constantI] at e
  exact word_range _ e

/-- The range precondition of the idealized kernel gives every batch id below 512. -/
theorem ok_of_pre_ideal (m : (ℓ : Loc Cert.KernelIdeal.nD Cert.KernelIdeal.τ Cert.KernelIdeal.sig) → Buf (Elt Ideal) ℓ)
    (h : Cert.Pre_KernelIdeal m) : PreOK (F := Ideal) m := by
  intro d j
  have e := congrFun (h d) j
  simp only [Cert.Pre_batch_in_range.fn, andi, cmpi, broadcastInDim, constantI] at e
  exact word_range _ e

variable {F : FTy → Type} [FloatOps F]

set_option maxHeartbeats 40000000 in
/-- The kernels' bodies of the two programs are the same text. -/
theorem defs₀_eq : Cert.KernelIdeal.defs₀ (F := F) = Cert.Kernel.defs₀ (F := F) := by
  funext p ℓ a
  unfold Cert.KernelIdeal.defs₀ Cert.Kernel.defs₀
  cases p with
  | tc => match ℓ, a with
    | 0, a => rfl
    | 1, (t, s) => rfl
    | 2, (t, s) => rfl
    | 3, (t, s) => rfl
  | scScalar c => match ℓ, a with
    | 0, a => rfl
    | 1, a => rfl
    | 2, a => rfl
    | 3, a => rfl
  | scVector c s => match ℓ, a with
    | 0, a => rfl
    | 1, a => rfl
    | 2, a => rfl
    | 3, a => rfl

/-- The two programs have the same body table. -/
theorem defs_eq : Cert.KernelIdeal.defs (F := F) = Cert.Kernel.defs (F := F) :=
  congrArg (fun D => Cert.Kernel.sc.defs (Pipeline.defs Cert.Kernel.pcfgs D)) defs₀_eq
/-- The printed kernel's frame. -/
theorem frame_kernel : Cert.quiescent_Kernel := fun m ρ hpre =>
  (θ_run Cert.Kernel.defs _ _).mono (fun _ h => ⟨fun c => QC_args m h c, h.2⟩)
    (Eq.mp (congrFun (congrArg (fun D => (θ_run D (Cert.Kernel.threads (F := Bits)) ⟨m, fun _ => 0, ρ⟩).1) (defs_eq (F := Bits))) (QC (F := Bits) m)) (run_main (F := Bits) m ρ (ok_of_pre m hpre)))

/-- The idealized kernel's frame. -/
theorem frame_ideal : Cert.quiescent_KernelIdeal := fun m ρ hpre =>
  (θ_run Cert.KernelIdeal.defs _ _).mono (fun _ h => ⟨fun c => QC_args m h c, h.2⟩) (run_main (F := Ideal) m ρ (ok_of_pre_ideal m hpre))

end Cert.Proof.Seg
end
-- ==== Proof.Decode.lean ====
/-
  What the precondition of the value claim says of the arguments: every batch id lies in its range, the rows, the encodings and the
  encoder's weights are finite, and every graph has a row unless the encoder's bias is zero.
-/
module

public import Idealize.ShloMosaic.Lib.ReduceAll
public import Idealize.ShloMosaic.Lib.Pointwise
public import proofs.«01_k».proof.Proof.Frames
public import proofs.«01_k».proof.Proof.Gen.Pre_finite_and_served

@[expose] public section

noncomputable section

namespace Cert.Proof.Seg

open Idealize.ShloMosaic

/-- A fold by bitwise or that ends at one began at one or met a one. -/
theorem foldl_ori_eq_one {ι : Type} (f : ι → BitVec 1) (l : List ι) (init : BitVec 1)
    (h : l.foldl (fun r n => IntOp.ori r (f n)) init = 1#1) : init = 1#1 ∨ ∃ n ∈ l, f n = 1#1 := by
  have key : ∀ a b : BitVec 1, IntOp.ori a b = 1#1 → a = 1#1 ∨ b = 1#1 := by decide
  induction l generalizing init with
  | nil => exact .inl h
  | cons a l ih =>
    rcases ih _ h with h | ⟨n, hn, e⟩
    · rcases key _ _ h with h | h
      · exact .inl h
      · exact .inr ⟨a, List.mem_cons_self, h⟩
    · exact .inr ⟨n, List.mem_cons_of_mem _ hn, e⟩

/-- A reduction by bitwise or that gives one from zero met a one among the indices that drop to the result's. -/
theorem reduce_ori_eq_one {s t u : Shape} {axes : List (Fin s.rank)} (x : s.Idx → BitVec 1) (init : u.Idx → BitVec 1) (h : s.ReducesTo axes t)
    (hu : 0 < u.numel) (j : t.Idx) (h0 : init (Shape.Idx.first hu) = 0#1) (e : Host.reduce IntOp.ori x init h hu j = 1#1) :
    ∃ i, h.drop i = j ∧ x i = 1#1 := by
  rw [Host.reduce_eq_foldl] at e
  rcases foldl_ori_eq_one _ _ _ e with e | ⟨i, hi, ei⟩
  · rw [h0] at e; exact absurd e (by decide)
  · exact ⟨i, of_decide_eq_true (List.mem_filter.mp hi).2, ei⟩

/-- The word of positive infinity. -/
theorem ofBits_inf : (FloatOps.ofBits .f32 0x7F800000#32 : Ideal .f32) = (⊤ : EReal) := by
  show Ideal.ofBits .f32 0x7F800000#32 = ⊤
  simp [Ideal.ofBits, Ideal.ieee]

/-- A number whose absolute value compares below infinity is finite. -/
theorem finite_of_cmp (v : EReal) (e : BitVec.ofBool (decide (max v (-v) < ⊤)) = 1#1) : v ≠ ⊤ ∧ v ≠ ⊥ := by
  have h : max v (-v) < ⊤ := of_decide_eq_true ((ofBool_eq_one _).mp e)
  refine ⟨fun h' => ?_, fun h' => ?_⟩ <;> simp [h'] at h

open Cert.Pre_finite_and_served Cert.Pre_finite_and_served.Gen in
/-- The ids laid along the rows, at an index. -/
theorem spread_ids (B : IVec S100000 32) (a : Fin 512) (b : Fin 100000) :
    broadcastInDim S512x100000 ![0, 1] bcast_S1x100000_S512x100000_0_1 (broadcastInDim S1x100000 ![1] bcast_S100000_S1x100000_1 B) (ix2 a b) = B (ix1 b) := by
  pointwise []

open Cert.Pre_finite_and_served Cert.Pre_finite_and_served.Gen in
/-- The graphs' numbers laid along the columns, at an index. -/
theorem spread_graphs (a : Fin 512) (b : Fin 100000) :
    broadcastInDim S512x100000 ![0, 1] bcast_S512x1_S512x100000_0_1 (broadcastInDim S512x1 ![0] bcast_S512_S512x1_0 (iotaInDim S512 32 0)) (ix2 a b)
      = BitVec.ofNat 32 a.val := by
  pointwise []

set_option maxRecDepth 4000 in
/-- The precondition, read off. -/
theorem pre_decode (x : FVec Ideal Cert.KernelIdeal.S100000x128 .f32) (pe : FVec Ideal Cert.KernelIdeal.S100000x8 .f32) (B : IVec Cert.KernelIdeal.S100000 32)
    (We : FVec Ideal Cert.KernelIdeal.S128x136 .f32) (be : FVec Ideal Cert.KernelIdeal.S128 .f32) (W1 : FVec Ideal Cert.KernelIdeal.S128x128 .f32)
    (b1 : FVec Ideal Cert.KernelIdeal.S128 .f32) (W2 : FVec Ideal Cert.KernelIdeal.S16x128 .f32) (b2 : FVec Ideal Cert.KernelIdeal.S16 .f32)
    (h : Cert.Pre_finite_and_served.fn (F := Ideal) x pe B We be W1 b1 W2 b2 = fun _ => 1#1) :
    (∀ i, (B i).toNat < 512) ∧ (∀ i, (x i : EReal) ≠ ⊤ ∧ (x i : EReal) ≠ ⊥) ∧ (∀ i, (pe i : EReal) ≠ ⊤ ∧ (pe i : EReal) ≠ ⊥)
      ∧ (∀ i, (We i : EReal) ≠ ⊤ ∧ (We i : EReal) ≠ ⊥)
      ∧ ((∀ g : Fin 512, ∃ n : Fin 100000, (B (ix1 n)).toNat = g.val) ∨ ∀ j, (be j : EReal) = 0) := by
  have e := congrFun h (fun a => a.elim0)
  have key : ∀ a b : BitVec 1, IntOp.ori a b = 1#1 → a = 1#1 ∨ b = 1#1 := by decide
  unfold Cert.Pre_finite_and_served.fn Cert.Pre_finite_and_served.fn_part1 at e
  obtain ⟨e28, e32⟩ := IntOp.andi_eq_one.1 e
  obtain ⟨e5, e19⟩ := IntOp.andi_eq_one.1 e28
  obtain ⟨e14, e18⟩ := IntOp.andi_eq_one.1 e19
  obtain ⟨e9, e13⟩ := IntOp.andi_eq_one.1 e14
  haveI : Subsingleton Cert.Pre_finite_and_served.S_.Idx := ⟨fun a b => funext fun i => i.elim0⟩
  have fin : ∀ v : EReal, Ideal.cmp .olt (max v (-v)) (FloatOps.ofBits .f32 0x7F800000#32 : Ideal .f32) = 1#1 → v ≠ ⊤ ∧ v ≠ ⊥ := fun v h => by
    rw [ofBits_inf] at h
    exact finite_of_cmp v h
  refine ⟨fun i => word_range _ (Host.reduce_andi_all _ _ _ _ _ e5 i), fun i => fin _ (Host.reduce_andi_all _ _ _ _ _ e9 i),
    fun i => fin _ (Host.reduce_andi_all _ _ _ _ _ e13 i), fun i => fin _ (Host.reduce_andi_all _ _ _ _ _ e18 i), ?_⟩
  rcases key _ _ e32 with e | e
  · refine .inl fun g => ?_
    have eg := Host.reduce_andi_all _ _ _ _ _ e (ix1 g)
    obtain ⟨i, hd, ei⟩ := reduce_ori_eq_one _ _ _ _ _ rfl eg
    have hv : (i 0).val = g.val := by
      rw [← Shape.ReducesTo.drop_apply_val_of_eq Cert.Pre_finite_and_served.Gen.reducesTo_S512x100000_S512_d1 i 0 0, hd]
      rfl
    refine ⟨i 1, ?_⟩
    have ee : B (ix1 (i 1)) = BitVec.ofNat 32 (i 0).val := by
      have e := of_decide_eq_true ((ofBool_eq_one _).mp ei)
      rw [show i = ix2 (i 0) (i 1) from eq_ix2 i] at e
      exact (spread_ids B _ _).symm.trans (e.trans (spread_graphs _ _))
    rw [ee, hv, BitVec.toNat_ofNat, Nat.mod_eq_of_lt (by have := g.isLt; omega)]
  · refine .inr fun j => ?_
    have ej := Host.reduce_andi_all _ _ _ _ _ e j
    have := of_decide_eq_true ((ofBool_eq_one _).mp ej)
    exact this.trans Ideal.ofBits_zero_f32

end Cert.Proof.Seg
end
-- ==== Proof.PeVal.lean ====
module

public import proofs.«01_k».proof.Proof.RegX
public import proofs.«01_k».proof.Proof.RegPe

@[expose] public section
noncomputable section
namespace Cert.Proof.Seg
open Cert.KernelIdeal Cert.KernelIdeal.Gen
open Idealize.ShloMosaic Idealize.ShloMosaic.TcCoe Idealize.ShloMosaic.Tactic
open Idealize.ShloMosaic.SparseCore.Cfg (HIx)
variable {F : FTy → Type} [FloatOps F]

/-- The offset of the `k`-th chunk of 2000 columns is within the rows' 100000. -/
theorem chunk_inb (n : ℕ) (k : Fin 50) : ∀ a, (![0, 2000 * k.val] : Fin 2 → ℕ) a + (![n, 2000] : Fin 2 → ℕ) a ≤ (![n, 100000] : Fin 2 → ℕ) a := by
  have := k.isLt
  intro a
  match a with
  | ⟨0, _⟩ => exact (Nat.zero_add n).le
  | ⟨1, _⟩ => show 2000 * k.val + 2000 ≤ 100000; omega

/-- The `k`-th chunk of the ids and of the encodings, as the body loads it. -/
def peB (c : Dev nD) (f1 : Bf (F := F) c (stage1_1 0)) (k : Fin 50) : Vec F S1x2000 .i32 :=
  View.readAt (Elt F) (stage1_1 0).view (Rect.unit (s := S1x100000) ![0, 2000 * k.val] S1x2000.size (chunk_inb 1 k)).toLoadRect f1
def peP (c : Dev nD) (f0 : Bf (F := F) c (stage1_0 0)) (k : Fin 50) : Vec F S8x2000 .f32 :=
  View.readAt (Elt F) (stage1_0 0).view (Rect.unit (s := S8x100000) ![0, 2000 * k.val] S8x2000.size (chunk_inb 8 k)).toLoadRect f0

/-- One chunk added to the accumulator: the encodings with a row of ones below, times the chunk's one-hot matrix. -/
def peStep (acc : FVec F S9x512 .f32) (B : Vec F S1x2000 .i32) (P : Vec F S8x2000 .f32) : FVec F S9x512 .f32 :=
  addf acc (matmul dot_S9x2000_S2000x512_S9x512_1_0_0_1_n_n none (k1_pay3 P) (k1_pay2 B) (constant S9x512 .f32 0x00000000#32))

/-- The accumulator after the first `n` chunks. -/
def peAcc (c : Dev nD) (f0 : Bf (F := F) c (stage1_0 0)) (f1 : Bf (F := F) c (stage1_1 0)) : (n : ℕ) → n ≤ 50 → FVec F S9x512 .f32
  | 0, _ => broadcast S9x512 (Scalar.ofBits .f32 0x00000000#32)
  | n + 1, h => peStep (peAcc c f0 f1 n (Nat.le_of_succ_le h)) (peB c f1 ⟨n, h⟩) (peP c f0 ⟨n, h⟩)

/-- The first two chunks, as the printed body writes them. -/
theorem pay1_eq (B0 : Vec F S1x2000 .i32) (P0 : Vec F S8x2000 .f32) (B1 : Vec F S1x2000 .i32) (P1 : Vec F S8x2000 .f32) :
    k1_pay1 B0 P0 B1 P1 = peStep (peStep (broadcast S9x512 (Scalar.ofBits .f32 0x00000000#32)) B0 P0) B1 P1 := rfl
/-- Three chunks further, the first of them prepared before. -/
theorem pay4_eq (acc : FVec F S9x512 .f32) (B0 : Vec F S1x2000 .i32) (P0 : Vec F S8x2000 .f32) (B1 : Vec F S1x2000 .i32) (P1 : Vec F S8x2000 .f32)
    (B2 : Vec F S1x2000 .i32) (P2 : Vec F S8x2000 .f32) :
    k1_pay4 (iota .tc S1x512 32 [1] iota_S1x512_d1_w32) acc (k1_pay2 B0) (k1_pay3 P0) B1 P1 B2 P2 = peStep (peStep (peStep acc B0 P0) B1 P1) B2 P2 := rfl

/-- The output block is written whole. -/
theorem cover_pe (v : FVec F S9x512 .f32) (L : List (View.Piece (Elt F) S9x512 .f32)) (h : ∀ a, (![0, 0] : Fin 2 → Nat) a + S9x512.size a ≤ S9x512.size a)
    (y : S9x512.Idx) : ∃ p ∈ ((⟨Rect.unit (s := S9x512) ![0, 0] S9x512.size h, v⟩ : View.Piece (Elt F) S9x512 .f32) :: L), y ∈ p.1.set :=
  ⟨_, List.mem_cons_self, View.mem_set_unit_zero (S := S9x512) hz2 h y⟩

/-- The first TensorCore body leaves the accumulator after all fifty chunks. -/
theorem peRun_read (c : Dev nD) (f0 : Bf (F := F) c (stage1_0 0)) (f1 : Bf (F := F) c (stage1_1 0)) : (stage1_2 0).view.read (Elt F) (peRun c f0 f1).1 = peAcc c f0 f1 50 le_rfl := by
  unfold peRun
  dsimp only
  sl_unfold_words
  rw [View.read_writes_eq_canon _ _ _ (cover_pe _ _ _)]
  rw [View.canon_unit_zero hz2]
  rfl
end Cert.Proof.Seg
end
-- ==== Proof.Math.lean ====
module

public import Idealize.ShloMosaic.Lib.Pointwise

public section

namespace Cert.Proof.Seg

open Idealize.ShloMosaic

/-! The arithmetic of mean pooling on the extended reals: pooling the encoded rows is encoding the pooled rows. -/

/-- A finite sum of reals, read among the extended reals, is the sum of the readings. -/
theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top is a real. -/
theorem exists_real {x : EReal} (h : x ≠ ⊤ ∧ x ≠ ⊥) : ∃ r : ℝ, x = r := ⟨x.toReal, (EReal.coe_toReal h.1 h.2).symm⟩

/-- The mean of reals each shifted by `β` is the mean of the reals, shifted by `β`: over a set that is not empty, or for `β = 0`. -/
theorem mean_shift {ι : Type*} (s : Finset ι) (a : ι → ℝ) (β : EReal) (h : s.Nonempty ∨ β = 0) :
    Ideal.div (((∑ n ∈ s, a n : ℝ) : EReal)) (max (∑ _n ∈ s, (1 : EReal)) 1) + β
      = Ideal.div (∑ n ∈ s, ((a n : EReal) + β)) (max (∑ _n ∈ s, (1 : EReal)) 1) := by
  rw [Finset.sum_add_distrib, ← coe_sum_real, Finset.sum_const, Finset.sum_const]
  have hm : max (s.card • (1 : EReal)) 1 = ((max (s.card : ℝ) 1 : ℝ) : EReal) := by
    rw [EReal.nsmul_eq_mul, mul_one, EReal.coe_strictMono.monotone.map_max]; rfl
  rw [hm]
  set A : ℝ := ∑ n ∈ s, a n
  have hpos : (0 : ℝ) < max (s.card : ℝ) 1 := lt_max_of_lt_right one_pos
  have hne : ((max (s.card : ℝ) 1 : ℝ) : EReal) ≠ 0 := by
    intro hh; exact hpos.ne' (EReal.coe_eq_zero.1 hh)
  simp only [Ideal.div, if_neg hne]
  rcases h with h | h
  · have hc : 1 ≤ s.card := h.card_pos
    have hmax : max (s.card : ℝ) 1 = (s.card : ℝ) := max_eq_left (by exact_mod_cast hc)
    rw [hmax, ← EReal.coe_inv]
    have hr0 : (0 : ℝ) ≤ ((s.card : ℝ))⁻¹ := by positivity
    rw [EReal.right_distrib_of_nonneg_of_ne_top (by exact_mod_cast hr0) (EReal.coe_ne_top _), EReal.nsmul_eq_mul]
    congr 1
    have : ((s.card : EReal) * β) * (((s.card : ℝ)⁻¹ : ℝ) : EReal) = ((s.card : EReal) * (((s.card : ℝ)⁻¹ : ℝ) : EReal)) * β := by
      rw [mul_assoc, mul_comm β, ← mul_assoc]
    rw [this]
    have h1 : (s.card : EReal) * (((s.card : ℝ)⁻¹ : ℝ) : EReal) = 1 := by
      have : ((s.card : ℕ) : EReal) = (((s.card : ℕ) : ℝ) : EReal) := rfl
      rw [this, ← EReal.coe_mul, mul_inv_cancel₀ (by exact_mod_cast (by omega : s.card ≠ 0)), EReal.coe_one]
    rw [h1, one_mul]
  · rw [h, smul_zero, add_zero, add_zero]

/-- Pooling first and encoding after, with the rows split into features and position encodings, is encoding each row first and pooling
    after. -/
theorem pooled_encoding {ι : Type*} (s : Finset ι) (x : ι → Fin 128 → EReal) (p : ι → Fin 8 → EReal) (w : Fin 128 → EReal) (w' : Fin 8 → EReal) (β : EReal)
    (hx : ∀ n d, x n d ≠ ⊤ ∧ x n d ≠ ⊥) (hp : ∀ n d, p n d ≠ ⊤ ∧ p n d ≠ ⊥) (hw : ∀ d, w d ≠ ⊤ ∧ w d ≠ ⊥) (hw' : ∀ d, w' d ≠ ⊤ ∧ w' d ≠ ⊥)
    (h : s.Nonempty ∨ β = 0) :
    Ideal.div ((∑ d, (∑ n ∈ s, x n d) * w d) + ∑ e, (∑ n ∈ s, p n e) * w' e) (max (∑ _n ∈ s, (1 : EReal)) 1) + β
      = Ideal.div (∑ n ∈ s, (((∑ d, x n d * w d) + ∑ e, p n e * w' e) + β)) (max (∑ _n ∈ s, (1 : EReal)) 1) := by
  choose xr hxr using fun n d => exists_real (hx n d)
  choose pr hpr using fun n d => exists_real (hp n d)
  choose wr hwr using fun d => exists_real (hw d)
  choose vr hvr using fun d => exists_real (hw' d)
  have hin : ∀ n, (∑ d, x n d * w d) + ∑ e, p n e * w' e = (((∑ d, xr n d * wr d) + ∑ e, pr n e * vr e : ℝ) : EReal) := by
    intro n
    rw [EReal.coe_add, coe_sum_real, coe_sum_real]
    simp only [hxr, hpr, hwr, hvr, EReal.coe_mul]
  have hout : ((∑ d, (∑ n ∈ s, x n d) * w d) + ∑ e, (∑ n ∈ s, p n e) * w' e)
      = ((∑ n ∈ s, ((∑ d, xr n d * wr d) + ∑ e, pr n e * vr e) : ℝ) : EReal) := by
    rw [Finset.sum_add_distrib, Finset.sum_comm, Finset.sum_comm (s := s) (t := (Finset.univ : Finset (Fin 8)))]
    simp only [← Finset.sum_mul]
    rw [EReal.coe_add, coe_sum_real, coe_sum_real]
    simp only [hxr, hpr, hwr, hvr, EReal.coe_mul, coe_sum_real]
  rw [hout]
  simp only [hin]
  exact mean_shift s _ β h

end Cert.Proof.Seg
-- ==== Proof.Payloads.lean ====
/-
  The three TensorCore bodies' arithmetic read at an index, on the extended reals: a one-hot matrix is an indicator, a product with it a
  sum over the rows of one graph.
-/
module

public import proofs.«01_k».proof.Proof.PeVal
public import proofs.«01_k».proof.Proof.Math

@[expose] public section

noncomputable section

namespace Cert.Proof.Seg

open Cert.KernelIdeal Cert.KernelIdeal.Gen
open Idealize.ShloMosaic Idealize.ShloMosaic.TcCoe Idealize.ShloMosaic.Tactic

/-- The comparison of two words, widened and converted, is the indicator of their equality. -/
theorem hot_eq (a b : BitVec 32) :
    FloatOps.sitofp (F := Ideal) .f32 (BitVec.setWidth 32 (IntOp.cmpi .eq a b)) = if a = b then (1 : EReal) else 0 := by
  by_cases h : a = b
  · rw [if_pos h]
    have : IntOp.cmpi .eq a b = 1#1 := by simp [IntOp.cmpi, h]
    rw [this]
    show (((BitVec.setWidth 32 1#1).toInt : ℝ) : EReal) = 1
    rw [show (BitVec.setWidth 32 1#1).toInt = 1 by decide]; norm_num
  · rw [if_neg h]
    have hb : (a == b) = false := beq_eq_false_iff_ne.2 h
    have : IntOp.cmpi .eq a b = 0#1 := by simp [IntOp.cmpi, hb]
    rw [this]
    show (((BitVec.setWidth 32 0#1).toInt : ℝ) : EReal) = 0
    rw [show (BitVec.setWidth 32 0#1).toInt = 0 by decide]; norm_num

/-- A word is a graph's number exactly when its value is. -/
theorem eq_ofNat_iff (a : BitVec 32) (g : Fin 512) : a = BitVec.ofNat 32 g.val ↔ a.toNat = g.val := by
  have := g.isLt
  rw [← BitVec.toNat_inj, BitVec.toNat_ofNat, Nat.mod_eq_of_lt (by omega)]

/-- The one-hot matrix of a chunk of ids. -/
theorem onehot_apply (B : Vec Ideal S1x2000 .i32) (k : Fin 2000) (g : Fin 512) :
    k1_pay2 B (ix2 k g) = if (B (ix2 0 k)).toNat = g.val then (1 : EReal) else 0 := by
  pointwise [k1_pay2]
  rw [hot_eq]
  simp only [eq_ofNat_iff]

/-- The encodings' chunk with its row of ones: the encodings above. -/
theorem pad_apply (P : Vec Ideal S8x2000 .f32) (k : Fin 2000) (e : Fin 9) :
    k1_pay3 P (ix2 e k) = if h : e.val < 8 then P (ix2 ⟨e.val, h⟩ k) else (1 : EReal) := by
  pointwise [k1_pay3]

/-- One step of the encodings' accumulator at an index. -/
theorem peStep_apply (acc : FVec Ideal S9x512 .f32) (B : Vec Ideal S1x2000 .i32) (P : Vec Ideal S8x2000 .f32) (e : Fin 9) (g : Fin 512) :
    peStep acc B P (ix2 e g)
      = acc (ix2 e g) + ∑ k : Fin 2000, if (B (ix2 0 k)).toNat = g.val then (if h : e.val < 8 then P (ix2 ⟨e.val, h⟩ k) else (1 : EReal)) else 0 := by
  have h : peStep acc B P (ix2 e g) = acc (ix2 e g) + ∑ k : Fin 2000, k1_pay3 P (ix2 e k) * k1_pay2 B (ix2 k g) := by
    pointwise [peStep]
  rw [h]
  refine congrArg _ (Finset.sum_congr rfl fun k _ => ?_)
  rw [onehot_apply, pad_apply, mul_ite, mul_one, mul_zero]

/-- One step of the rows' accumulator at an index. -/
theorem xStep_apply (ids : Vec Ideal S1x1x2000 .i32) (acc : Vec Ideal S512x128 .f32) (x : Vec Ideal S2000x128 .f32) (g : Fin 512) (d : Fin 128) :
    k2_pay2 ids acc x (ix2 g d) = acc (ix2 g d) + ∑ k : Fin 2000, if (ids (ix3 0 0 k)).toNat = g.val then x (ix2 k d) else 0 := by
  pointwise [k2_pay2]
  refine congrArg _ (Finset.sum_congr rfl fun k _ => ?_)
  rw [hot_eq, ite_mul, one_mul, zero_mul]
  simp only [eq_ofNat_iff]

/-- The block the rows' accumulator starts from is zero. -/
theorem xZero_apply (g : Fin 512) (d : Fin 128) : (k2_pay1 : FVec Ideal S512x128 .f32) (ix2 g d) = (0 : EReal) := by
  pointwise [k2_pay1]

/-- A row times the identity picks its element. -/
theorem sum_hot (v : Fin 512 → EReal) (g : Fin 512) :
    (∑ k : Fin 512, FloatOps.sitofp (F := Ideal) .f32 (BitVec.setWidth 32 (IntOp.cmpi .eq (BitVec.ofNat 32 g.val) (BitVec.ofNat 32 k.val))) * v k) = v g := by
  rw [Finset.sum_eq_single g]
  · rw [hot_eq, if_pos rfl, one_mul]
  · intro k _ hk
    rw [hot_eq, if_neg, zero_mul]
    intro h
    rw [eq_ofNat_iff, BitVec.toNat_ofNat, Nat.mod_eq_of_lt (by have := g.isLt; omega)] at h
    exact hk (Fin.ext h.symm)
  · intro h; exact absurd (Finset.mem_univ _) h

/-- The head on a row `h` of encoded means: two layers with a cut at zero between. -/
def head (W1 : Fin 128 → Fin 128 → EReal) (b1 : Fin 128 → EReal) (W2 : Fin 16 → Fin 128 → EReal) (b2 : Fin 16 → EReal)
    (h : Fin 128 → EReal) (o : Fin 16) : EReal :=
  (∑ j, max ((∑ d, h d * W1 j d) + b1 j) 0 * W2 o j) + b2 o

/-- The last body's result at an index: the head on the means. -/
theorem combine_apply (v0 : Vec Ideal S32x512x128 .f32) (v3 : Vec Ideal S512x128 .f32) (v11 : Vec Ideal S1x512 .f32) (v16 : Vec Ideal S128x128 .f32)
    (v18 : Vec Ideal S8x512 .f32) (v20 : Vec Ideal S128x8 .f32) (v25 : Vec Ideal S1x128 .f32) (v29 : Vec Ideal S128x128 .f32) (v31 : Vec Ideal S1x128 .f32)
    (W2 : Vec Ideal S16x128 .f32) (b2 : Vec Ideal S1x16 .f32) (g : Fin 512) (o : Fin 16) :
    k3_pay1 (k3_pay2 v0 v3 v11 v16 v18 v20 v25 v29 v31) W2 b2 (ix2 g o)
      = head (fun j d => v29 (ix2 j d)) (fun j => v31 (ix2 0 j)) (fun o j => W2 (ix2 o j)) (fun o => b2 (ix2 0 o))
          (fun j => Ideal.div ((∑ d, ((∑ w, v0 (ix3 w g d)) + v3 (ix2 g d)) * v16 (ix2 j d)) + ∑ e, v18 (ix2 e g) * v20 (ix2 j e)) (max (v11 (ix2 0 g)) 1)
            + v25 (ix2 0 j)) o := by
  pointwise [k3_pay1, k3_pay2]
  simp only [sum_hot (fun k => v11 (ix2 0 k)) g]
  rfl

end Cert.Proof.Seg
end
-- ==== Proof.Arrays.lean ====
/-
  What the three TensorCore calls leave in their arrays, and the blocks their fetches stage, as functions of the arrays at entry.
-/
module

public import Idealize.ShloMosaic.Lib.Pipeline.ValueKit.Geometry
public import Idealize.ShloMosaic.Lib.Pipeline.ValueKit.Tiles
public import proofs.«01_k».proof.Proof.Payloads
public import proofs.«01_k».proof.Proof.Main

@[expose] public section
noncomputable section
namespace Cert.Proof.Seg
open Cert.KernelIdeal Cert.KernelIdeal.Gen
open Idealize.ShloMosaic Idealize.ShloMosaic.TcCoe Idealize.ShloMosaic.Tactic
open Idealize.ShloMosaic.SparseCore.Cfg (HIx)
open Idealize.SL.Sem
variable {F : FTy → Type} [FloatOps F]
variable (V : Valuation τ sig (Elt F))

/-- The first call's result array is what its body left in the staging buffer. -/
theorem pe_final_of (c : Dev nD) (G : FVec F S9x512 .f32) (hG : (stage1_2 0).view.read (Elt F) (peOut V c).1 = G) : (datPe V c).arrAt 2 cfg1.N = G := by
  have ha : (datPe V c).after 2 t1_0 = (stage1_2 0).view.read (Elt F) (peOut V c).1 := by dsimp only [datPe]; generalize (peOut V c).1 = W; rfl
  refine Pipeline.Dat.arrAt_eq_of_after_last (datPe V c) 2 t1_0 (by decide +kernel) _ (fun j => ?_)
  rw [ha]
  rw [hG]
  rfl

/-- The second call's `t`-th point stages the rows' and the ids' block `38 + t`. -/
theorem win2_0_index : ∀ t : Fin cfg2.N, win2_0.index t = ![38 + t.val, 0] :=
  (by decide +kernel : ∀ t : Fin grid2.N, win2_0.index t = ![38 + t.val, 0])
theorem win2_1_index : ∀ t : Fin cfg2.N, win2_1.index t = ![38 + t.val, 0, 0] :=
  (by decide +kernel : ∀ t : Fin grid2.N, win2_1.index t = ![38 + t.val, 0, 0])

/-- The rows' block and the ids' block of a point, at an index. -/
theorem xStg0_apply (t : Fin cfg2.N) (k : Fin 2000) (d : Fin 128) (h : 2000 * (38 + t.val) + k.val < 100000) :
    xStg0 V t (ix2 k d) = V (dr main_arg0) (ix2 ⟨2000 * (38 + t.val) + k.val, h⟩ d) := by
  show V (dr main_arg0) (((cfg2.win 0).blk t).view.emb (ix2 k d)) = _
  blk_ext [win2_0_index]
theorem xStg1_apply (t : Fin cfg2.N) (k : Fin 2000) (h : 38 + t.val < 50) :
    xStg1 V t (ix3 0 0 k) = V (dr main_v4) (ix3 ⟨38 + t.val, h⟩ 0 k) := by
  show V (dr main_v4) (((cfg2.win 1).blk t).view.emb (ix3 0 0 k)) = _
  blk_ext [win2_1_index]
/-- The first call's result array is the accumulator after all chunks. -/
theorem pe_final (c : Dev nD) : (datPe V c).arrAt 2 cfg1.N = peAcc c (peStg0 V) (peStg1 V) 50 le_rfl :=
  pe_final_of V c _ (peRun_read c _ _)

/-- The second call's result array is the accumulator after all blocks. -/
theorem x_final (c : Dev nD) : (datX V c).arrAt 2 cfg2.N = xAcc V 12 := by
  refine Pipeline.Dat.arrAt_eq_of_after_last (datX V c) 2 ⟨11, by decide⟩ (by decide +kernel) _ (fun j => ?_)
  rfl

/-! The windows of the first and the last call are their arrays whole. -/

theorem win1_0_index : win1_0.index t1_0 = ![0, 0] := by decide +kernel
theorem win1_1_index : win1_1.index t1_0 = ![0, 0] := by decide +kernel
theorem peStg0_eq : peStg0 V = V (dr main_v1) := by
  funext j
  show V (dr main_v1) (((cfg1.win 0).blk t1_0).view.emb j) = _
  blk_ext [win1_0_index]
theorem peStg1_eq : peStg1 V = V (dr main_v2) := by
  funext j
  show V (dr main_v2) (((cfg1.win 1).blk t1_0).view.emb j) = _
  blk_ext [win1_1_index]

theorem win3_0_index : win3_0.index t3_0 = ![0, 0, 0] := by decide +kernel
theorem cbStg0_eq : cbStg0 V = V (dr main_v0) := by
  funext j
  show V (dr main_v0) (((cfg3.win 0).blk t3_0).view.emb j) = _
  blk_ext [win3_0_index]
theorem win3_1_index : win3_1.index t3_0 = ![0, 0] := by decide +kernel
theorem cbStg1_eq : cbStg1 V = V (dr main_v5) := by
  funext j
  show V (dr main_v5) (((cfg3.win 1).blk t3_0).view.emb j) = _
  blk_ext [win3_1_index]
theorem win3_2_index : win3_2.index t3_0 = ![0, 0] := by decide +kernel
theorem cbStg2_eq : cbStg2 V = V (dr main_v3) := by
  funext j
  show V (dr main_v3) (((cfg3.win 2).blk t3_0).view.emb j) = _
  blk_ext [win3_2_index]
theorem win3_3_index : win3_3.index t3_0 = ![0, 0] := by decide +kernel
theorem cbStg3_eq : cbStg3 V = V (dr main_arg3) := by
  funext j
  show V (dr main_arg3) (((cfg3.win 3).blk t3_0).view.emb j) = _
  blk_ext [win3_3_index]
theorem win3_4_index : win3_4.index t3_0 = ![0, 0] := by decide +kernel
theorem cbStg4_eq : cbStg4 V = V (dr main_v6) := by
  funext j
  show V (dr main_v6) (((cfg3.win 4).blk t3_0).view.emb j) = _
  blk_ext [win3_4_index]
theorem win3_5_index : win3_5.index t3_0 = ![0, 0] := by decide +kernel
theorem cbStg5_eq : cbStg5 V = V (dr main_arg5) := by
  funext j
  show V (dr main_arg5) (((cfg3.win 5).blk t3_0).view.emb j) = _
  blk_ext [win3_5_index]
theorem win3_6_index : win3_6.index t3_0 = ![0, 0] := by decide +kernel
theorem cbStg6_eq : cbStg6 V = V (dr main_v7) := by
  funext j
  show V (dr main_v7) (((cfg3.win 6).blk t3_0).view.emb j) = _
  blk_ext [win3_6_index]
theorem win3_7_index : win3_7.index t3_0 = ![0, 0] := by decide +kernel
theorem cbStg7_eq : cbStg7 V = V (dr main_arg7) := by
  funext j
  show V (dr main_arg7) (((cfg3.win 7).blk t3_0).view.emb j) = _
  blk_ext [win3_7_index]
theorem win3_8_index : win3_8.index t3_0 = ![0, 0] := by decide +kernel
theorem cbStg8_eq : cbStg8 V = V (dr main_v8) := by
  funext j
  show V (dr main_v8) (((cfg3.win 8).blk t3_0).view.emb j) = _
  blk_ext [win3_8_index]

/-- The last call's output block is written whole. -/
theorem cover_cb (v : FVec F S512x16 .f32) (L : List (View.Piece (Elt F) S512x16 .f32)) (h : ∀ a, (![0, 0] : Fin 2 → Nat) a + S512x16.size a ≤ S512x16.size a)
    (y : S512x16.Idx) : ∃ p ∈ ((⟨Rect.unit (s := S512x16) ![0, 0] S512x16.size h, v⟩ : View.Piece (Elt F) S512x16 .f32) :: L), y ∈ p.1.set :=
  ⟨_, List.mem_cons_self, View.mem_set_unit_zero (S := S512x16) hz2 h y⟩

/-- The last body leaves the head of the means, from the arrays it loads whole and the four parts of arrays it loads. -/
theorem cbRun_apply (c : Dev nD) (f0 : Vec Ideal S32x512x128 .f32) (f1 : Vec Ideal S512x128 .f32) (f2 : Vec Ideal S9x512 .f32) (f3 : Vec Ideal S128x136 .f32)
    (f4 : Vec Ideal S1x128 .f32) (f5 : Vec Ideal S128x128 .f32) (f6 : Vec Ideal S1x128 .f32) (f7 : Vec Ideal S16x128 .f32) (f8 : Vec Ideal S1x16 .f32)
    (g : Fin 512) (o : Fin 16) :
    (stage3_9 0).view.read (Elt Ideal) (cbRun (F := Ideal) c f0 f1 f2 f3 f4 f5 f6 f7 f8).1 (ix2 g o)
      = head (fun j d => f5 (ix2 j d)) (fun j => f6 (ix2 0 j)) (fun o j => f7 (ix2 o j)) (fun o => f8 (ix2 0 o))
          (fun j => Ideal.div ((∑ d, ((∑ w, f0 (ix3 w g d)) + f1 (ix2 g d)) * f3 (ix2 j (Fin.castAdd 8 d)))
              + ∑ e : Fin 8, f2 (ix2 ⟨e.val, by omega⟩ g) * f3 (ix2 j (Fin.natAdd 128 e))) (max (f2 (ix2 8 g)) 1)
            + f4 (ix2 0 j)) o := by
  have h : (stage3_9 0).view.read (Elt Ideal) (cbRun (F := Ideal) c f0 f1 f2 f3 f4 f5 f6 f7 f8).1
      = k3_pay1 (k3_pay2 f0 f1 (fun y => f2 (ix2 8 (y 1))) (fun y => f3 (ix2 (y 0) (Fin.castAdd 8 (y 1)))) (fun y => f2 (ix2 ⟨(y 0).val, by have := (y 0).isLt; exact Nat.lt_of_lt_of_le this (by decide)⟩ (y 1)))
          (fun y => f3 (ix2 (y 0) (Fin.natAdd 128 (y 1)))) f4 f5 f6) f7 f8 := by
    unfold cbRun
    dsimp only
    sl_unfold_words
    rw [View.read_writes_eq_canon _ _ _ (cover_cb _ _ _)]
    rw [View.canon_unit_zero hz2]
    refine congr (congr (congrArg _ (congr (congr (congr (congr (congr (congr (congr (congr (congrArg _ ?_) ?_) ?_) ?_) ?_) ?_) ?_) ?_) ?_)) ?_) ?_
    all_goals
      funext y
      rw [View.readAt_eq_ld]
      refine View.ld_unit_apply_of _ _ _ _ y _ fun a => ?_
      fin_cases a <;> first | exact (Nat.zero_add _).symm | rfl | exact congrArg (8 + ·) (Nat.lt_one_iff.1 (y 0).isLt).symm
  rw [h, combine_apply]
  rfl

/-- The last call's result array is what its body left in the staging buffer. -/
theorem cb_final (c : Dev nD) : (datCb V c).arrAt 9 cfg3.N = (stage3_9 0).view.read (Elt F) (cbOut V c).1 := by
  have ha : (datCb V c).after 9 t3_0 = (stage3_9 0).view.read (Elt F) (cbOut V c).1 := by dsimp only [datCb]; generalize (cbOut V c).1 = W; rfl
  refine Pipeline.Dat.arrAt_eq_of_after_last (datCb V c) 9 t3_0 (by decide +kernel) _ (fun j => ?_)
  rw [ha]
  generalize (stage3_9 0).view.read (Elt F) (cbOut V c).1 = G
  rfl

end Cert.Proof.Seg
end
-- ==== Proof.Sums.lean ====
/-
  The kernel's three partial results as sums over rows, on the extended reals: the tiles' parts together, the second call's blocks, and
  the encodings' accumulator.
-/
module

public import proofs.«01_k».proof.Proof.Arrays

@[expose] public section

noncomputable section

namespace Cert.Proof.Seg

open Cert.KernelIdeal Cert.KernelIdeal.Gen
open Idealize.ShloMosaic Idealize.ShloMosaic.TcCoe Idealize.ShloMosaic.Tactic
open Idealize.ShloMosaic.SparseCore.Cfg (HIx)
open Idealize.SL.Sem

/-- A row's contribution to a graph's lane: its element there, if the row is of that graph. -/
def rowTerm (X : S100000x128.Idx → EReal) (B : S100000.Idx → BitVec 32) (g : Fin 512) (d : Fin 128) (i : ℕ) : EReal :=
  if segOf B i = g.val then rowOf (F := Ideal) X i d else 0

/-- A tile's accumulator holds the sums of its first `n` rows. -/
theorem accV_apply (X : S100000x128.Idx → EReal) (B : S100000.Idx → BitVec 32) (g : Fin 512) (d : Fin 128) (r0 n : ℕ) :
    accV (F := Ideal) X B r0 n (ix2 g d) = ∑ i ∈ Finset.range n, rowTerm X B g d (r0 + i) := by
  induction n with
  | zero => rw [Finset.sum_range_zero]; show (Scalar.ofBits .f32 0x00000000#32 : Ideal .f32) = 0; exact Ideal.ofBits_zero_f32
  | succ n ih =>
    rw [Finset.sum_range_succ, ← ih]
    show (if g.val = segOf B (r0 + n) ∧ 0 ≤ d.val ∧ d.val < 128 then FloatOps.addf (accV (F := Ideal) X B r0 n (ix2 g d)) (rowOf (F := Ideal) X (r0 + n) d)
      else accV (F := Ideal) X B r0 n (ix2 g d)) = _
    unfold rowTerm
    by_cases h : segOf B (r0 + n) = g.val
    · rw [if_pos ⟨h.symm, Nat.zero_le _, d.isLt⟩, if_pos h]; rfl
    · rw [if_neg (fun h' => h h'.1.symm), if_neg h, add_zero]

/-- Sums over consecutive stretches of rows are the sum over all of them. -/
theorem sum_stretches (f : ℕ → EReal) (r n : ℕ → ℕ) (h0 : r 0 = 0) (k : ℕ) (h : ∀ w < k, r (w + 1) = r w + n w) :
    ∑ w ∈ Finset.range k, ∑ i ∈ Finset.range (n w), f (r w + i) = ∑ i ∈ Finset.range (r k), f i := by
  induction k with
  | zero => rw [h0]; rfl
  | succ k ih =>
    rw [Finset.sum_range_succ, ih fun w hw => h w (Nat.lt_succ_of_lt hw), h k (Nat.lt_succ_self k), Finset.sum_range_add]

/-- The tiles' parts add up to the sum of the first 76000 rows. -/
theorem parts_sum (X : S100000x128.Idx → EReal) (B : S100000.Idx → BitVec 32) (g : Fin 512) (d : Fin 128) :
    ∑ w : Fin 32, partsV (F := Ideal) X B (ix3 w g d) = ∑ i ∈ Finset.range 76000, rowTerm X B g d i := by
  have h := sum_stretches (rowTerm X B g d) tileRow0 tileN (by decide) 32 (fun w hw => by unfold tileRow0 tileN; split <;> omega)
  rw [show tileRow0 32 = 76000 by decide] at h
  rw [← h, Finset.sum_range]
  exact Finset.sum_congr rfl fun w _ => accV_apply X B g d _ _

/-- The second call's accumulator holds the sums of its first `n` blocks of 2000 rows, from row 76000 on. -/
theorem xAcc_apply (V : Valuation τ sig (Elt Ideal)) (X : S100000x128.Idx → EReal) (B : S100000.Idx → BitVec 32)
    (hX : V (dr main_arg0) = X) (hB : ∀ (b : Fin 50) (k : Fin 2000) (h : 2000 * b.val + k.val < 100000),
      (V (dr main_v4) : Vec Ideal S50x1x2000 .i32) (ix3 b 0 k) = B (ix1 ⟨2000 * b.val + k.val, h⟩))
    (g : Fin 512) (d : Fin 128) (n : ℕ) (hn : n ≤ 12) :
    xAcc V n (ix2 g d) = ∑ i ∈ Finset.range (2000 * n), rowTerm X B g d (76000 + i) := by
  induction n with
  | zero => exact xZero_apply g d
  | succ n ih =>
    have hN : n < cfg2.N := by show n < 12; omega
    have := xAcc_succ V ⟨n, hN⟩
    rw [show n + 1 = (⟨n, hN⟩ : Fin cfg2.N).val + 1 from rfl, this, xStep_apply, ih (by omega), show 2000 * ((⟨n, hN⟩ : Fin cfg2.N).val + 1) = 2000 * n + 2000 by ring,
      Finset.sum_range_add]
    refine congrArg _ ?_
    rw [Finset.sum_range]
    refine Finset.sum_congr rfl fun k _ => ?_
    have hk := k.isLt
    rw [xStg1_apply V ⟨n, hN⟩ k (by show 38 + n < 50; omega), xStg0_apply V ⟨n, hN⟩ k d (by show 2000 * (38 + n) + k.val < 100000; omega),
      hB ⟨38 + n, by omega⟩ k (by show 2000 * (38 + n) + k.val < 100000; omega), hX]
    have hlt : 76000 + (2000 * n + k.val) < 100000 := by omega
    have e : (⟨2000 * (38 + n) + k.val, by omega⟩ : Fin 100000) = ⟨76000 + (2000 * n + k.val), hlt⟩ := Fin.ext (by show 2000 * (38 + n) + k.val = 76000 + (2000 * n + k.val); omega)
    unfold rowTerm segOf rowOf
    rw [dif_pos hlt, dif_pos hlt]
    show (if (B (ix1 (⟨2000 * (38 + n) + k.val, _⟩ : Fin 100000))).toNat = g.val then X (ix2 (⟨2000 * (38 + n) + k.val, _⟩ : Fin 100000) d) else 0) = _
    rw [e]
    rfl

/-- A row's contribution to the encodings' accumulator: its encoding at a lane below eight, one at the ninth. -/
def peTerm (pe : S100000x8.Idx → EReal) (B : S100000.Idx → BitVec 32) (g : Fin 512) (e : Fin 9) (n : Fin 100000) : EReal :=
  if (B (ix1 n)).toNat = g.val then (if h : e.val < 8 then pe (ix2 n ⟨e.val, h⟩) else 1) else 0

/-- The same, for any number of a row. -/
def peTermN (pe : S100000x8.Idx → EReal) (B : S100000.Idx → BitVec 32) (g : Fin 512) (e : Fin 9) (i : ℕ) : EReal :=
  if h : i < 100000 then peTerm pe B g e ⟨i, h⟩ else 0

/-- The encodings' accumulator holds the sums of its first `n` chunks of 2000 rows. -/
theorem peAcc_apply (c : Dev nD) (f0 : Vec Ideal S8x100000 .f32) (f1 : Vec Ideal S1x100000 .i32) (pe : S100000x8.Idx → EReal) (B : S100000.Idx → BitVec 32)
    (h0 : ∀ e n, f0 (ix2 e n) = pe (ix2 n e)) (h1 : ∀ n, f1 (ix2 0 n) = B (ix1 n)) (g : Fin 512) (e : Fin 9) (n : ℕ) (hn : n ≤ 50) :
    peAcc (F := Ideal) c f0 f1 n hn (ix2 e g) = ∑ i ∈ Finset.range (2000 * n), peTermN pe B g e i := by
  induction n with
  | zero => exact Ideal.ofBits_zero_f32
  | succ n ih =>
    rw [peAcc, peStep_apply, ih, show 2000 * (n + 1) = 2000 * n + 2000 by ring, Finset.sum_range_add]
    refine congrArg _ ?_
    rw [Finset.sum_range]
    refine Finset.sum_congr rfl fun k _ => ?_
    have hk := k.isLt
    have hlt : 2000 * n + k.val < 100000 := by omega
    have eB : peB (F := Ideal) c f1 ⟨n, hn⟩ (ix2 0 k) = B (ix1 ⟨2000 * n + k.val, hlt⟩) := by
      rw [← h1]
      unfold peB
      rw [View.readAt_eq_ld]
      refine View.ld_unit_apply_of _ _ _ _ _ _ fun a => ?_
      fin_cases a <;> rfl
    have eP : ∀ e', peP (F := Ideal) c f0 ⟨n, hn⟩ (ix2 e' k) = pe (ix2 ⟨2000 * n + k.val, hlt⟩ e') := by
      intro e'
      rw [← h0]
      unfold peP
      rw [View.readAt_eq_ld]
      refine View.ld_unit_apply_of _ _ _ _ _ _ fun a => ?_
      fin_cases a <;> first | exact (Nat.zero_add _).symm | rfl
    rw [eB]
    simp only [eP]
    unfold peTermN peTerm
    rw [dif_pos hlt]

end Cert.Proof.Seg
end
-- ==== Proof.RefVal.lean ====
/-
  The reference's result read at an index, on the extended reals: the two scatters are sums over the rows of one graph, the rest is the
  encoding of a row and the head.
-/
module

public import proofs.«01_k».proof.Proof.Payloads
public import proofs.«01_k».proof.Proof.Gen.ReferenceIdeal.Run

@[expose] public section

noncomputable section

namespace Cert.Proof.Seg

open Cert.ReferenceIdeal Cert.ReferenceIdeal.Gen
open Idealize.ShloMosaic

/-- A scatter of rows, one start index each on the first axis, at an index: the operand's element and the sum of the rows landing there. -/
theorem scatter_rows {D : ℕ} (d : ScatterDims ⟨2, ![512, D]⟩ ⟨2, ![100000, 1]⟩ ⟨2, ![100000, D]⟩) (x : FVec Ideal ⟨2, ![512, D]⟩ .f32)
    (idx : IVec ⟨2, ![100000, 1]⟩ 32) (upd : FVec Ideal ⟨2, ![100000, D]⟩ .f32)
    (hs : ∀ j, d.start j idx 0 = (idx (ix2 (j 0) 0)).toInt ∧ d.start j idx 1 = 0) (hw : ∀ j, d.window j 0 = 0 ∧ d.window j 1 = (j 1).val)
    (hidx : ∀ n, (idx (ix2 n 0)).toNat < 512) (g : Fin 512) (l : Fin D) :
    Host.scatterAdd d x idx upd (ix2 g l) = x (ix2 g l) + ∑ n : Fin 100000, if (idx (ix2 n 0)).toNat = g.val then upd (ix2 n l) else 0 := by
  show x (ix2 g l) + ∑ j ∈ Finset.univ.filter (fun j => d.resultIdx? j idx = some (ix2 g l)), upd j = _
  have hI : ∀ n, (idx (ix2 n 0)).toInt = (idx (ix2 n 0)).toNat := fun n =>
    BitVec.toInt_eq_toNat_of_lt (by have := hidx n; omega)
  have hiff : ∀ n l', d.resultIdx? (ix2 n l') idx = some (ix2 g l) ↔ ((idx (ix2 n 0)).toNat = g.val ∧ l' = l) := by
    intro n l'
    have h0 : d.start (ix2 n l') idx 0 + d.window (ix2 n l') 0 = ((idx (ix2 n 0)).toNat : ℤ) := by
      rw [(hs _).1, (hw _).1]; show (idx (ix2 n 0)).toInt + ((0 : ℕ) : ℤ) = _; rw [hI]; simp
    have h1 : d.start (ix2 n l') idx 1 + d.window (ix2 n l') 1 = (l'.val : ℤ) := by
      rw [(hs _).2, (hw _).2]; show (0 : ℤ) + ((l'.val : ℕ) : ℤ) = _; simp
    have hin : ∀ a : Fin 2, 0 ≤ d.start (ix2 n l') idx a + d.window (ix2 n l') a
        ∧ d.start (ix2 n l') idx a + d.window (ix2 n l') a < (⟨2, ![512, D]⟩ : Shape).size a := by
      intro a
      match a with
      | ⟨0, _⟩ =>
        have := hidx n
        show 0 ≤ d.start (ix2 n l') idx 0 + d.window (ix2 n l') 0 ∧ d.start (ix2 n l') idx 0 + d.window (ix2 n l') 0 < ((512 : ℕ) : ℤ)
        rw [h0]; omega
      | ⟨1, _⟩ =>
        have := l'.isLt
        show 0 ≤ d.start (ix2 n l') idx 1 + d.window (ix2 n l') 1 ∧ d.start (ix2 n l') idx 1 + d.window (ix2 n l') 1 < ((D : ℕ) : ℤ)
        rw [h1]; omega
    unfold ScatterDims.resultIdx?
    rw [dif_pos hin, Option.some.injEq]
    constructor
    · intro h
      have e0 := congrArg Fin.val (congrFun h 0)
      have e1 := congrArg Fin.val (congrFun h 1)
      simp only [h0, h1, Int.toNat_natCast] at e0 e1
      exact ⟨e0, Fin.ext e1⟩
    · rintro ⟨e0, rfl⟩
      funext a
      match a with
      | ⟨0, _⟩ => exact Fin.ext (by show (d.start (ix2 n l') idx 0 + d.window (ix2 n l') 0).toNat = g.val; rw [h0, Int.toNat_natCast, e0])
      | ⟨1, _⟩ => exact Fin.ext (by show (d.start (ix2 n l') idx 1 + d.window (ix2 n l') 1).toNat = l'.val; rw [h1, Int.toNat_natCast])
  rw [Finset.sum_filter, sum_idx2]
  refine congrArg _ (Finset.sum_congr rfl fun n _ => ?_)
  simp only [hiff]
  by_cases hg : (idx (ix2 n 0)).toNat = g.val
  · simp only [hg, true_and, if_true]
    rw [Finset.sum_ite_eq' Finset.univ l, if_pos (Finset.mem_univ _)]
  · simp only [hg, false_and, if_false, Finset.sum_const_zero]

/-- The two scatters' dimension numbers, of the rows and of the counts. -/
abbrev scX := Cert.ReferenceIdeal.scatter_S512x128_S100000x1_S100000x128_1_0_0_1
abbrev scC := Cert.ReferenceIdeal.scatter_S512x1_S100000x1_S100000x1_1_0_0_1

/-- An index into a column has last coordinate zero. -/
theorem eq_col (i : S100000x1.Idx) (n : Fin 100000) (h : i 0 = n) : i = ix2 n 0 := by
  funext b
  match b with
  | ⟨0, _⟩ => exact h
  | ⟨1, _⟩ => exact Fin.ext (Nat.lt_one_iff.1 (i 1).isLt)

/-- The rows' scatter starts at the row's graph and at lane zero; its window runs over the lanes. -/
theorem scX_start (idx : IVec S100000x1 32) (j : S100000x128.Idx) : scX.start j idx 0 = (idx (ix2 (j 0) 0)).toInt ∧ scX.start j idx 1 = 0 := by
  constructor
  · unfold ScatterDims.start
    rw [dif_pos (by decide), eq_col (scX.siIdx j _) (j 0) rfl]
  · unfold ScatterDims.start
    rw [dif_neg (by decide)]
theorem scX_window (j : S100000x128.Idx) : scX.window j 0 = 0 ∧ scX.window j 1 = (j 1).val := by
  constructor
  · unfold ScatterDims.window
    rw [dif_neg (by decide)]
  · unfold ScatterDims.window
    rw [dif_pos (by decide)]
    rfl
/-- The counts' scatter likewise, over one lane. -/
theorem scC_start (idx : IVec S100000x1 32) (j : S100000x1.Idx) : scC.start j idx 0 = (idx (ix2 (j 0) 0)).toInt ∧ scC.start j idx 1 = 0 := by
  constructor
  · unfold ScatterDims.start
    rw [dif_pos (by decide), eq_col (scC.siIdx j _) (j 0) rfl]
  · unfold ScatterDims.start
    rw [dif_neg (by decide)]
theorem scC_window (j : S100000x1.Idx) : scC.window j 0 = 0 ∧ scC.window j 1 = (j 1).val := by
  constructor
  · unfold ScatterDims.window
    rw [dif_neg (by decide)]
  · unfold ScatterDims.window
    rw [dif_pos (by decide)]
    rfl

variable (x : FVec Ideal S100000x128 .f32) (pe : FVec Ideal S100000x8 .f32) (B : IVec S100000 32) (We : FVec Ideal S128x136 .f32)
  (be : FVec Ideal S128 .f32) (W1 : FVec Ideal S128x128 .f32) (b1 : FVec Ideal S128 .f32) (W2 : FVec Ideal S16x128 .f32) (b2 : FVec Ideal S16 .f32)

/-- The reference's encoded rows. -/
def refEnc : FVec Ideal S100000x128 .f32 :=
  addf (Host.dotGeneral dot_S100000x136_S136x128_S100000x128_1_0_0_1_n_n none (concatenate S100000x136 1 [⟨S100000x128, x⟩, ⟨S100000x8, pe⟩] concatenates_S100000x128_S100000x8_S100000x136_d1) (transpose S136x128 [1, 0] We transposes_S128x136_S136x128_1_0)) (broadcastInDim S100000x128 ![0, 1] bcast_S1x128_S100000x128_0_1 (broadcastInDim S1x128 ![1] bcast_S128_S1x128_1 be))

/-- The reference's sums of encoded rows and its counts, graph by graph. -/
def refSum : FVec Ideal S512x128 .f32 :=
  Host.scatterAdd scatter_S512x128_S100000x1_S100000x128_1_0_0_1 (broadcastInDim S512x128 ![] bcast_S_S512x128 (constant S_ .f32 0x00000000#32)) (broadcastInDim S100000x1 ![0] bcast_S100000_S100000x1_0 B) (refEnc x pe We be)
def refCnt : FVec Ideal S512x1 .f32 :=
  Host.scatterAdd scatter_S512x1_S100000x1_S100000x1_1_0_0_1 (broadcastInDim S512x1 ![] bcast_S_S512x1 (constant S_ .f32 0x00000000#32)) (broadcastInDim S100000x1 ![0] bcast_S100000_S100000x1_0 B) (broadcastInDim S100000x1 ![] bcast_S_S100000x1 (constant S_ .f32 0x3F800000#32))

/-- The reference's result. -/
def refTerm : FVec Ideal S512x16 .f32 :=
  addf (Host.dotGeneral dot_S512x128_S128x16_S512x16_1_0_0_1_n_n none (maximumf (addf (Host.dotGeneral dot_S512x128_S128x128_S512x128_1_0_0_1_n_n none (Host.divf (refSum x pe B We be) (broadcastInDim S512x128 ![0, 1] bcast_S512x1_S512x128_0_1 (maximumf (refCnt B) (broadcastInDim S512x1 ![] bcast_S_S512x1 (constant S_ .f32 0x3F800000#32))))) (transpose S128x128 [1, 0] W1 transposes_S128x128_S128x128_1_0)) (broadcastInDim S512x128 ![0, 1] bcast_S1x128_S512x128_0_1 (broadcastInDim S1x128 ![1] bcast_S128_S1x128_1 b1))) (broadcastInDim S512x128 ![] bcast_S_S512x128 (constant S_ .f32 0x00000000#32))) (transpose S128x16 [1, 0] W2 transposes_S16x128_S128x16_1_0)) (broadcastInDim S512x16 ![0, 1] bcast_S1x16_S512x16_0_1 (broadcastInDim S1x16 ![1] bcast_S16_S1x16_1 b2))

/-- An encoded row at a lane. -/
theorem refEnc_apply (n : Fin 100000) (j : Fin 128) :
    refEnc x pe We be (ix2 n j)
      = ((∑ d : Fin 128, x (ix2 n d) * We (ix2 j (Fin.castAdd 8 d))) + ∑ e : Fin 8, pe (ix2 n e) * We (ix2 j (Fin.natAdd 128 e))) + be (ix1 j) := by
  pointwise [refEnc]
  rfl

/-- A sum of encoded rows at an index. -/
theorem refSum_apply (hB : ∀ i, (B i).toNat < 512) (g : Fin 512) (j : Fin 128) :
    refSum x pe B We be (ix2 g j) = ∑ n : Fin 100000, if (B (ix1 n)).toNat = g.val then refEnc x pe We be (ix2 n j) else 0 := by
  have hb : ∀ n : Fin 100000, broadcastInDim S100000x1 ![0] bcast_S100000_S100000x1_0 B (ix2 n 0) = B (ix1 n) := fun n => by pointwise
  have hz : (broadcastInDim S512x128 ![] bcast_S_S512x128 (constant (F := Ideal) S_ .f32 0x00000000#32)) (ix2 g j) = (0 : EReal) := by pointwise
  unfold refSum
  rw [scatter_rows scX _ _ _ (scX_start _) scX_window (fun n => by rw [hb]; exact hB _), hz, zero_add]
  simp only [hb]

/-- A count at an index. -/
theorem refCnt_apply (hB : ∀ i, (B i).toNat < 512) (g : Fin 512) :
    refCnt B (ix2 g 0) = ∑ n : Fin 100000, if (B (ix1 n)).toNat = g.val then (1 : EReal) else 0 := by
  have hb : ∀ n : Fin 100000, broadcastInDim S100000x1 ![0] bcast_S100000_S100000x1_0 B (ix2 n 0) = B (ix1 n) := fun n => by pointwise
  have hz : (broadcastInDim S512x1 ![] bcast_S_S512x1 (constant (F := Ideal) S_ .f32 0x00000000#32)) (ix2 g 0) = (0 : EReal) := by pointwise
  have ho : ∀ n : Fin 100000, (broadcastInDim S100000x1 ![] bcast_S_S100000x1 (constant (F := Ideal) S_ .f32 0x3F800000#32)) (ix2 n 0) = (1 : EReal) := fun n => by pointwise
  unfold refCnt
  rw [scatter_rows scC _ _ _ (scC_start _) scC_window (fun n => by rw [hb]; exact hB _), hz, zero_add]
  simp only [hb, ho]

/-- The reference's result at an index: the head on the means of the encoded rows. -/
theorem refTerm_apply (g : Fin 512) (o : Fin 16) :
    refTerm x pe B We be W1 b1 W2 b2 (ix2 g o)
      = head (fun j d => W1 (ix2 j d)) (fun j => b1 (ix1 j)) (fun o j => W2 (ix2 o j)) (fun o => b2 (ix1 o))
          (fun j => Ideal.div (refSum x pe B We be (ix2 g j)) (max (refCnt B (ix2 g 0)) 1)) o := by
  pointwise [refTerm]
  rfl

end Cert.Proof.Seg
end
-- ==== Proof.Values.lean ====
/-
  The kernel's result, followed back through the host program to the arguments: the head of each graph's encoded mean, which is the
  reference's value.
-/
module

public import proofs.«01_k».proof.Proof.Sums
public import proofs.«01_k».proof.Proof.RefVal

@[expose] public section

noncomputable section

namespace Cert.Proof.Seg

open Cert.KernelIdeal Cert.KernelIdeal.Gen
open Idealize.ShloMosaic Idealize.ShloMosaic.TcCoe Idealize.ShloMosaic.Tactic
open Idealize.ShloMosaic.SparseCore.Cfg (HIx)
open Idealize.SL.Sem

variable (m : (ℓ : Loc nD τ sig) → Buf (Elt Ideal) ℓ) (d : Dev nD)

/-! ## The arguments, and what the last call takes -/

abbrev aX : S100000x128.Idx → EReal := m (d, dr main_arg0)
abbrev aP : S100000x8.Idx → EReal := m (d, dr main_arg1)
abbrev aB : S100000.Idx → BitVec 32 := m (d, dr main_arg2)
abbrev aWe : S128x136.Idx → EReal := m (d, dr main_arg3)
abbrev aBe : S128.Idx → EReal := m (d, dr main_arg4)
abbrev aW1 : S128x128.Idx → EReal := m (d, dr main_arg5)
abbrev aB1 : S128.Idx → EReal := m (d, dr main_arg6)
abbrev aW2 : S16x128.Idx → EReal := m (d, dr main_arg7)
abbrev aB2 : S16.Idx → EReal := m (d, dr main_arg8)
abbrev kParts : S32x512x128.Idx → EReal := W6 m d (dr main_v0)
abbrev kRest : S512x128.Idx → EReal := W6 m d (dr main_v5)
abbrev kEnc : S9x512.Idx → EReal := W6 m d (dr main_v3)
abbrev kBe : S1x128.Idx → EReal := W6 m d (dr main_v6)
abbrev kB1 : S1x128.Idx → EReal := W6 m d (dr main_v7)
abbrev kB2 : S1x16.Idx → EReal := W6 m d (dr main_v8)

/-! ## The host operations' results at an index -/

theorem W2_v1 (e : Fin 8) (n : Fin 100000) : (W2 m d (dr main_v1) : Vec Ideal S8x100000 .f32) (ix2 e n) = aP m d (ix2 n e) := by
  unfold W2
  rw [StableHlo.reshape_result_ne _ _ _ _ _ _ _ (by decide), StableHlo.unary_result]
  pointwise [W1]
  rfl
theorem W2_v2 (n : Fin 100000) : (W2 m d (dr main_v2) : Vec Ideal S1x100000 .i32) (ix2 0 n) = aB m d (ix1 n) := by
  unfold W2
  rw [StableHlo.reshape_result, StableHlo.unary_result_ne _ _ _ _ _ _ (by decide)]
  pointwise [W1]
  rfl
theorem W4_v4 (b : Fin 50) (k : Fin 2000) (h : 2000 * b.val + k.val < 100000) :
    (W4 m d (dr main_v4) : Vec Ideal S50x1x2000 .i32) (ix3 b 0 k) = aB m d (ix1 ⟨2000 * b.val + k.val, h⟩) := by
  unfold W4
  rw [StableHlo.reshape_result, W3_keep m d _ (by decide), W2_keep m d _ (by decide) (by decide) (by decide)]
  pointwise []
  exact congrArg (fun i : Fin 100000 => aB m d (ix1 i)) (Fin.ext (by show b.val * 2000 + k.val = 2000 * b.val + k.val; ring))
/-- An argument is as it began when the last call takes it, and when the reshapes before that call do. -/
theorem W5_arg (r : Ref sig .tc) (h : r ∉ written) : W5 m d (dr r) = m (d, dr r) := by
  simp only [written, List.mem_cons, List.not_mem_nil, _root_.or_false, not_or] at h
  obtain ⟨h0, h1, h2, h3, h4, h5, h6, h7, h8, h9⟩ := h
  rw [W5_keep m d r h5, W4_keep m d r h4, W3_keep m d r h3, W2_keep m d r h0 h1 h2]
theorem W6_arg (r : Ref sig .tc) (h : r ∉ written) : W6 m d (dr r) = m (d, dr r) := by
  rw [W6_keep m d r (fun e => h (by rw [e]; decide)) (fun e => h (by rw [e]; decide)) (fun e => h (by rw [e]; decide)), W5_arg m d r h]

theorem W6_v6 (j : Fin 128) : kBe m d (ix2 0 j) = aBe m d (ix1 j) := by
  unfold kBe W6
  rw [StableHlo.reshape_result_ne _ _ _ _ _ _ _ (by decide), StableHlo.reshape_result_ne _ _ _ _ _ _ _ (by decide), StableHlo.reshape_result,
    W5_arg m d _ (by decide)]
  pointwise []
theorem W6_v7 (j : Fin 128) : kB1 m d (ix2 0 j) = aB1 m d (ix1 j) := by
  unfold kB1 W6
  rw [StableHlo.reshape_result_ne _ _ _ _ _ _ _ (by decide), StableHlo.reshape_result, StableHlo.reshape_result_ne _ _ _ _ _ _ _ (by decide),
    W5_arg m d _ (by decide)]
  pointwise []
theorem W6_v8 (o : Fin 16) : kB2 m d (ix2 0 o) = aB2 m d (ix1 o) := by
  unfold kB2 W6
  rw [StableHlo.reshape_result, StableHlo.reshape_result_ne _ _ _ _ _ _ _ (by decide), StableHlo.reshape_result_ne _ _ _ _ _ _ _ (by decide),
    W5_arg m d _ (by decide)]
  pointwise []

/-! ## The calls' results as the last call takes them -/

theorem W6_v0 : kParts m d = partsV (F := Ideal) (aX m d) (aB m d) := by
  show W6 m d (dr main_v0) = _
  rw [W6_keep m d _ (by decide) (by decide) (by decide), W5_keep m d _ (by decide), W4_keep m d _ (by decide), W3_keep m d _ (by decide)]
  unfold W2 W1
  rw [StableHlo.reshape_result_ne _ _ _ _ _ _ _ (by decide), StableHlo.unary_result_ne _ _ _ _ _ _ (by decide), Function.update_self]
theorem W6_v5 : kRest m d = xAcc (W4 m d) 12 := by
  show W6 m d (dr main_v5) = _
  rw [W6_keep m d _ (by decide) (by decide) (by decide)]
  exact (Pipeline.afterRegion_arr (datX (W4 m d) d) (W4 m d) winFacts2.arr_inj 2).trans (x_final (W4 m d) d)
theorem W6_v3 : kEnc m d = peAcc (F := Ideal) d (W2 m d (dr main_v1)) (W2 m d (dr main_v2)) 50 le_rfl := by
  show W6 m d (dr main_v3) = _
  rw [W6_keep m d _ (by decide) (by decide) (by decide), W5_keep m d _ (by decide), W4_keep m d _ (by decide)]
  refine (Pipeline.afterRegion_arr (datPe (W2 m d) d) (W2 m d) winFacts1.arr_inj 2).trans ((pe_final (W2 m d) d).trans ?_)
  rw [peStg0_eq, peStg1_eq]

/-- The rows of a graph. -/
def rowsOf (B : IVec S100000 32) (g : Fin 512) : Finset (Fin 100000) := Finset.univ.filter fun n => (B (ix1 n)).toNat = g.val

/-- The tiles' parts and the second call's sums together are the sum of a graph's rows. -/
theorem rows_sum (g : Fin 512) (l : Fin 128) :
    (∑ w : Fin 32, kParts m d (ix3 w g l)) + kRest m d (ix2 g l)
      = ∑ n ∈ rowsOf (aB m d) g, (aX m d (ix2 n l)) := by
  rw [W6_v0, W6_v5, parts_sum, xAcc_apply (W4 m d) (aX m d) (aB m d)
    (by rw [W4_keep m d _ (by decide), W3_keep m d _ (by decide), W2_keep m d _ (by decide) (by decide) (by decide)]) (W4_v4 m d) g l 12 le_rfl,
    ← Finset.sum_range_add, Finset.sum_range, rowsOf, Finset.sum_filter]
  refine Finset.sum_congr rfl fun n _ => ?_
  have hn : n.val < 100000 := n.isLt
  unfold rowTerm segOf rowOf
  rw [dif_pos hn, dif_pos hn]
  rfl

/-- The encodings' sums, and the counts, are those of a graph's rows. -/
theorem enc_sum (g : Fin 512) (e : Fin 9) :
    kEnc m d (ix2 e g)
      = ∑ n ∈ rowsOf (aB m d) g, if h : e.val < 8 then (aP m d (ix2 n ⟨e.val, h⟩)) else 1 := by
  rw [W6_v3, peAcc_apply d _ _ (aP m d) (aB m d) (W2_v1 m d) (W2_v2 m d) g e 50 le_rfl, Finset.sum_range, rowsOf, Finset.sum_filter]
  refine Finset.sum_congr rfl fun n _ => ?_
  have hn : n.val < 100000 := n.isLt
  unfold peTermN peTerm
  rw [dif_pos hn]

/-- The kernel's result is the reference's, on finite rows, encodings and weights, where every graph has a row or the encoder's bias is zero. -/
theorem kernel_value (hB : ∀ i, (aB m d i).toNat < 512)
    (hx : ∀ i, (aX m d i) ≠ ⊤ ∧ (aX m d i) ≠ ⊥)
    (hp : ∀ i, (aP m d i) ≠ ⊤ ∧ (aP m d i) ≠ ⊥)
    (hw : ∀ i, (aWe m d i) ≠ ⊤ ∧ (aWe m d i) ≠ ⊥)
    (hs : (∀ g : Fin 512, ∃ n : Fin 100000, (aB m d (ix1 n)).toNat = g.val)
      ∨ ∀ j, (aBe m d j) = 0) :
    W7 m d (dr main_v9) = refTerm (aX m d) (aP m d) (aB m d) (aWe m d) (aBe m d) (aW1 m d) (aB1 m d) (aW2 m d) (aB2 m d) := by
  refine (Pipeline.afterRegion_arr (datCb (W6 m d) d) (W6 m d) winFacts3.arr_inj 9).trans ((cb_final (W6 m d) d).trans (funext fun y => ?_))
  obtain ⟨g, o, rfl⟩ : ∃ (g : Fin 512) (o : Fin 16), y = ix2 g o := ⟨y 0, y 1, eq_ix2 y⟩
  rw [refTerm_apply]
  refine (cbRun_apply d _ _ _ _ _ _ _ _ _ g o).trans ?_
  rw [cbStg0_eq, cbStg1_eq, cbStg2_eq, cbStg3_eq, cbStg4_eq, cbStg5_eq, cbStg6_eq, cbStg7_eq, cbStg8_eq,
    W6_arg m d main_arg3 (by decide), W6_arg m d main_arg5 (by decide), W6_arg m d main_arg7 (by decide)]
  show head (fun j l => aW1 m d (ix2 j l)) (fun j => kB1 m d (ix2 0 j)) (fun o j => aW2 m d (ix2 o j)) (fun o => kB2 m d (ix2 0 o))
    (fun j => Ideal.div ((∑ l, ((∑ w, kParts m d (ix3 w g l)) + kRest m d (ix2 g l)) * aWe m d (ix2 j (Fin.castAdd 8 l)))
        + ∑ e : Fin 8, kEnc m d (ix2 ⟨e.val, by omega⟩ g) * aWe m d (ix2 j (Fin.natAdd 128 e))) (max (kEnc m d (ix2 8 g)) 1) + kBe m d (ix2 0 j)) o = _
  have hne : (rowsOf (aB m d) g).Nonempty ∨ ∀ j, aBe m d j = 0 := hs.imp (fun h => (h g).imp fun n hn => Finset.mem_filter.mpr ⟨Finset.mem_univ _, hn⟩) id
  have h8 : ∀ e : Fin 8, kEnc m d (ix2 ⟨e.val, by omega⟩ g) = ∑ n ∈ rowsOf (aB m d) g, aP m d (ix2 n e) := fun e => by
    rw [enc_sum]; exact Finset.sum_congr rfl fun n _ => dif_pos e.isLt
  have h1 : kEnc m d (ix2 8 g) = ∑ _n ∈ rowsOf (aB m d) g, (1 : EReal) := by
    rw [enc_sum]; exact Finset.sum_congr rfl fun n _ => dif_neg (by decide)
  have hr : ∀ l, (∑ w, kParts m d (ix3 w g l)) + kRest m d (ix2 g l) = ∑ n ∈ rowsOf (aB m d) g, aX m d (ix2 n l) := rows_sum m d g
  have hb : ∀ j, kBe m d (ix2 0 j) = aBe m d (ix1 j) := W6_v6 m d
  have hb1 : (fun j => kB1 m d (ix2 0 j)) = fun j => aB1 m d (ix1 j) := funext (W6_v7 m d)
  have hb2 : (fun o => kB2 m d (ix2 0 o)) = fun o => aB2 m d (ix1 o) := funext (W6_v8 m d)
  have hh : ∀ j, Ideal.div ((∑ l, ((∑ w, kParts m d (ix3 w g l)) + kRest m d (ix2 g l)) * aWe m d (ix2 j (Fin.castAdd 8 l)))
        + ∑ e : Fin 8, kEnc m d (ix2 ⟨e.val, by omega⟩ g) * aWe m d (ix2 j (Fin.natAdd 128 e))) (max (kEnc m d (ix2 8 g)) 1) + kBe m d (ix2 0 j)
      = Ideal.div (refSum (aX m d) (aP m d) (aB m d) (aWe m d) (aBe m d) (ix2 g j)) (max (refCnt (aB m d) (ix2 g 0)) 1) := fun j => by
    simp only [hr, hb, h8, h1]
    rw [pooled_encoding _ (fun n l => aX m d (ix2 n l)) (fun n e => aP m d (ix2 n e)) (fun l => aWe m d (ix2 j (Fin.castAdd 8 l)))
      (fun e => aWe m d (ix2 j (Fin.natAdd 128 e))) _ (fun _ _ => hx _) (fun _ _ => hp _) (fun _ => hw _) (fun _ => hw _) (hne.imp id fun h => h _),
      refSum_apply _ _ _ _ _ hB, refCnt_apply _ hB]
    simp only [refEnc_apply, rowsOf, Finset.sum_filter]
  simp only [hh, hb1, hb2]

end Cert.Proof.Seg
end
-- ==== Proof.lean ====
/-
  The certificate: the frames of the kernel, as printed and idealized, and of the reference; and the kernel's result, which on the
  extended reals is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_batch_in_range
public import proofs.«01_k».proof.Proof.Gen.Pre_finite_and_served
public import proofs.«01_k».proof.Proof.Frames
public import proofs.«01_k».proof.Proof.Decode
public import proofs.«01_k».proof.Proof.Values
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal := fun m ρ _ => (θ_run Cert.ReferenceIdeal.defs _ _).mono
  (fun r h => ⟨fun c => (h c).2, sem_eq_zero_of_no_sems (by decide) r.2⟩) (Cert.ReferenceIdeal.Value.run (F := Ideal) m ρ)

/-- The reference's frame under the value claim's precondition. -/
theorem frame_reference_served : Cert.quiescent_ReferenceIdeal_pre_finite_and_served := fun m ρ _ => frame_reference m ρ trivial

/-- The value claim's precondition gives every batch id below 512. -/
theorem ok_of_served (m : (ℓ : Loc Cert.KernelIdeal.nD Cert.KernelIdeal.τ Cert.KernelIdeal.sig) → Buf (Elt Ideal) ℓ)
    (h : Cert.Pre_KernelIdeal_finite_and_served m) : Seg.PreOK (F := Ideal) m := fun d => (Seg.pre_decode _ _ _ _ _ _ _ _ _ (h d)).1

/-- The idealized kernel's frame under the value claim's precondition. -/
theorem frame_ideal_served : Cert.quiescent_KernelIdeal_pre_finite_and_served := fun m ρ hpre =>
  (θ_run Cert.KernelIdeal.defs _ _).mono (fun _ h => ⟨fun c => Seg.QC_args m h c, h.2⟩) (Seg.run_main (F := Ideal) m ρ (ok_of_served m hpre))

/-- On the extended reals the kernel's result is the reference's: both are the head of each graph's encoded mean. -/
theorem algebraic : Cert.algebraic_KernelIdeal_ReferenceIdeal_pre_finite_and_served := fun m ρ m' ρ' hpre hm => by
  refine ⟨fun c => Seg.refTerm (Seg.aX m c) (Seg.aP m c) (Seg.aB m c) (Seg.aWe m c) (Seg.aBe m c) (Seg.aW1 m c) (Seg.aB1 m c) (Seg.aW2 m c) (Seg.aB2 m c), ?_, ?_⟩
  · refine (θ_run Cert.KernelIdeal.defs _ _).mono (fun r h c => ⟨?_, Seg.QC_args m h c⟩) (Seg.run_main (F := Ideal) m ρ (ok_of_served m hpre))
    obtain ⟨hB, hx, hp, hw, hs⟩ := Seg.pre_decode _ _ _ _ _ _ _ _ _ (hpre c)
    exact (h.1 c (Seg.dr Cert.KernelIdeal.main_v9) (by decide)).trans (Seg.kernel_value m c hB hx hp hw hs)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8⟩ := hm c
    rw [e0, e1, e2, e3, e4, e5, e6, e7, e8]
    rfl

theorem claim : Cert.Claim := ⟨Cert.Kernel.Gen.facts, Cert.KernelIdeal.Gen.facts, Cert.ReferenceIdeal.Gen.facts, Cert.Pre_batch_in_range.Gen.facts,
  Cert.Pre_finite_and_served.Gen.facts, Seg.frame_kernel, Seg.frame_ideal, frame_ideal_served, frame_reference, frame_reference_served, trivial, algebraic⟩

end Cert.Proof

end
